-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S4096x2048 : Shape := ⟨2, ![4096, 2048]⟩
abbrev S4x128x1024 : Shape := ⟨3, ![4, 128, 1024]⟩
abbrev S4 : Shape := ⟨1, ![4]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S4096x2048, .f32⟩
  | .local _ .vmem, ⟨0, _⟩ => ⟨S4096x128, .f32⟩
  | .local _ .vmem, ⟨1, _⟩ => ⟨S128x2048, .f32⟩
  | .local _ .vmem, ⟨2, _⟩ => ⟨S4096x2048, .f32⟩
  | .local _ .vmem, ⟨3, _⟩ => ⟨S4x128x1024, .f32⟩
  | .local _ .vmem, ⟨4, _⟩ => ⟨S4x128x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 3 19 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_15 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v19 : BitVec 32 := Scalar.subi v2 c0_i32_15
  let c32_i32_16 : BitVec 32 := 32#32
  let v20 : BitVec 32 := Scalar.addi v19 c32_i32_16
  let c32_i32_17 : BitVec 32 := 32#32
  let v21 : BitVec 32 := Scalar.remsi v20 c32_i32_17
  let c128_i32 : BitVec 32 := 128#32
  let v22 : BitVec 32 := Scalar.muli v21 c128_i32
  let c0_i32_25 : BitVec 32 := 0#32
  ![v22.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_21 : BitVec 32 := 1#32
  let v23 : BitVec 32 := Scalar.muli v7 c1_i32_21
  let v24 : BitVec 32 := Scalar.addi c0_i32_22 v23
  v24.toNat
def k0_off2 (d0 : Dev nD) (c0_i32_26 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v32 : BitVec 32 := Scalar.addi v2 c0_i32_26
  let c32_i32_27 : BitVec 32 := 32#32
  let v33 : BitVec 32 := Scalar.remsi v32 c32_i32_27
  let c128_i32_28 : BitVec 32 := 128#32
  let v34 : BitVec 32 := Scalar.muli v33 c128_i32_28
  let c1024_i32 : BitVec 32 := 1024#32
  ![v34.toNat, 1024]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_32 : BitVec 32 := 1#32
  let v35 : BitVec 32 := Scalar.muli v5 c1_i32_32
  let v36 : BitVec 32 := Scalar.addi c0_i32_33 v35
  v36.toNat
def k0_off3 (d0 : Dev nD) (c0_i32_44 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v51 : BitVec 32 := Scalar.subi v2 c0_i32_44
  let c1_i32_45 : BitVec 32 := 1#32
  let v52 : BitVec 32 := Scalar.subi v51 c1_i32_45
  let c32_i32_46 : BitVec 32 := 32#32
  let v53 : BitVec 32 := Scalar.addi v52 c32_i32_46
  let c32_i32_47 : BitVec 32 := 32#32
  let v54 : BitVec 32 := Scalar.remsi v53 c32_i32_47
  let c128_i32_48 : BitVec 32 := 128#32
  let v55 : BitVec 32 := Scalar.muli v54 c128_i32_48
  let v56 : Index := Scalar.indexCast v55
  let c0_49 : Index := 0#32
  ![v56.toNat, 0]
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_55 : BitVec 32 := 1#32
  let v64 : BitVec 32 := Scalar.muli v5 c1_i32_55
  let v65 : BitVec 32 := Scalar.addi c0_i32_56 v64
  v65.toNat
def k0_dev6 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_64 : BitVec 32 := 1#32
  let v70 : BitVec 32 := Scalar.muli v7 c1_i32_64
  let v71 : BitVec 32 := Scalar.addi c0_i32_65 v70
  v71.toNat
def k0_off4 (d0 : Dev nD) (c0_i32_77 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v86 : BitVec 32 := Scalar.addi v2 c0_i32_77
  let c1_i32_78 : BitVec 32 := 1#32
  let v87 : BitVec 32 := Scalar.addi v86 c1_i32_78
  let c32_i32_79 : BitVec 32 := 32#32
  let v88 : BitVec 32 := Scalar.remsi v87 c32_i32_79
  let c128_i32_80 : BitVec 32 := 128#32
  let v89 : BitVec 32 := Scalar.muli v88 c128_i32_80
  let v90 : Index := Scalar.indexCast v89
  let c1024 : Index := 1024#32
  ![v90.toNat, 1024]
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_86 : BitVec 32 := 1#32
  let v98 : BitVec 32 := Scalar.muli v7 c1_i32_86
  let v99 : BitVec 32 := Scalar.addi c0_i32_87 v98
  v99.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_94 : BitVec 32 := 1#32
  let v103 : BitVec 32 := Scalar.muli v5 c1_i32_94
  let v104 : BitVec 32 := Scalar.addi c0_i32_95 v103
  v104.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_117 : BitVec 32 := 1#32
  let v132 : BitVec 32 := Scalar.muli v5 c1_i32_117
  let v133 : BitVec 32 := Scalar.addi c0_i32_118 v132
  v133.toNat
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_126 : BitVec 32 := 1#32
  let v138 : BitVec 32 := Scalar.muli v7 c1_i32_126
  let v139 : BitVec 32 := Scalar.addi c0_i32_127 v138
  v139.toNat
def k0_dev11 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_149 : BitVec 32 := 1#32
  let v166 : BitVec 32 := Scalar.muli v7 c1_i32_149
  let v167 : BitVec 32 := Scalar.addi c0_i32_150 v166
  v167.toNat
def k0_dev12 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_157 : BitVec 32 := 1#32
  let v171 : BitVec 32 := Scalar.muli v5 c1_i32_157
  let v172 : BitVec 32 := Scalar.addi c0_i32_158 v171
  v172.toNat
def k0_dev13 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_180 : BitVec 32 := 1#32
  let v200 : BitVec 32 := Scalar.muli v5 c1_i32_180
  let v201 : BitVec 32 := Scalar.addi c0_i32_181 v200
  v201.toNat
def k0_dev14 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_188 : BitVec 32 := 1#32
  let v206 : BitVec 32 := Scalar.muli v7 c1_i32_188
  let v207 : BitVec 32 := Scalar.addi c0_i32_189 v206
  v207.toNat
def k0_dev15 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_211 : BitVec 32 := 1#32
  let v234 : BitVec 32 := Scalar.muli v7 c1_i32_211
  let v235 : BitVec 32 := Scalar.addi c0_i32_212 v234
  v235.toNat
def k0_dev16 (d0 : Dev nD) : Nat :=
  let c0_i32_220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_219 : BitVec 32 := 1#32
  let v239 : BitVec 32 := Scalar.muli v5 c1_i32_219
  let v240 : BitVec 32 := Scalar.addi c0_i32_220 v239
  v240.toNat
def k0_dev17 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_242 : BitVec 32 := 1#32
  let v268 : BitVec 32 := Scalar.muli v5 c1_i32_242
  let v269 : BitVec 32 := Scalar.addi c0_i32_243 v268
  v269.toNat
def k0_dev18 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_259 : BitVec 32 := 1#32
  let v279 : BitVec 32 := Scalar.muli v7 c1_i32_259
  let v280 : BitVec 32 := Scalar.addi c0_i32_260 v279
  v280.toNat
def k0_dev19 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_282 : BitVec 32 := 1#32
  let v307 : BitVec 32 := Scalar.muli v7 c1_i32_282
  let v308 : BitVec 32 := Scalar.addi c0_i32_283 v307
  v308.toNat
def k0_dev20 (d0 : Dev nD) : Nat :=
  let c0_i32_300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_299 : BitVec 32 := 1#32
  let v317 : BitVec 32 := Scalar.muli v5 c1_i32_299
  let v318 : BitVec 32 := Scalar.addi c0_i32_300 v317
  v318.toNat
def k0_dev21 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_323 : BitVec 32 := 1#32
  let v346 : BitVec 32 := Scalar.muli v5 c1_i32_323
  let v347 : BitVec 32 := Scalar.addi c0_i32_324 v346
  v347.toNat
def k0_dev22 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_340 : BitVec 32 := 1#32
  let v357 : BitVec 32 := Scalar.muli v7 c1_i32_340
  let v358 : BitVec 32 := Scalar.addi c0_i32_341 v357
  v358.toNat
def k0_dev23 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_363 : BitVec 32 := 1#32
  let v385 : BitVec 32 := Scalar.muli v7 c1_i32_363
  let v386 : BitVec 32 := Scalar.addi c0_i32_364 v385
  v386.toNat
def k0_dev24 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_380 : BitVec 32 := 1#32
  let v395 : BitVec 32 := Scalar.muli v5 c1_i32_380
  let v396 : BitVec 32 := Scalar.addi c0_i32_381 v395
  v396.toNat
def k0_dev25 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_404 : BitVec 32 := 1#32
  let v424 : BitVec 32 := Scalar.muli v5 c1_i32_404
  let v425 : BitVec 32 := Scalar.addi c0_i32_405 v424
  v425.toNat
def k0_dev26 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_421 : BitVec 32 := 1#32
  let v435 : BitVec 32 := Scalar.muli v7 c1_i32_421
  let v436 : BitVec 32 := Scalar.addi c0_i32_422 v435
  v436.toNat
def k0_dev27 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_444 : BitVec 32 := 1#32
  let v463 : BitVec 32 := Scalar.muli v7 c1_i32_444
  let v464 : BitVec 32 := Scalar.addi c0_i32_445 v463
  v464.toNat
def k0_dev28 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_461 : BitVec 32 := 1#32
  let v473 : BitVec 32 := Scalar.muli v5 c1_i32_461
  let v474 : BitVec 32 := Scalar.addi c0_i32_462 v473
  v474.toNat
def k0_dev29 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_485 : BitVec 32 := 1#32
  let v502 : BitVec 32 := Scalar.muli v5 c1_i32_485
  let v503 : BitVec 32 := Scalar.addi c0_i32_486 v502
  v503.toNat
def k0_dev30 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_502 : BitVec 32 := 1#32
  let v513 : BitVec 32 := Scalar.muli v7 c1_i32_502
  let v514 : BitVec 32 := Scalar.addi c0_i32_503 v513
  v514.toNat
def k0_dev31 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_525 : BitVec 32 := 1#32
  let v541 : BitVec 32 := Scalar.muli v7 c1_i32_525
  let v542 : BitVec 32 := Scalar.addi c0_i32_526 v541
  v542.toNat
def k0_dev32 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_542 : BitVec 32 := 1#32
  let v551 : BitVec 32 := Scalar.muli v5 c1_i32_542
  let v552 : BitVec 32 := Scalar.addi c0_i32_543 v551
  v552.toNat
def k0_dev33 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_566 : BitVec 32 := 1#32
  let v580 : BitVec 32 := Scalar.muli v5 c1_i32_566
  let v581 : BitVec 32 := Scalar.addi c0_i32_567 v580
  v581.toNat
def k0_dev34 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_583 : BitVec 32 := 1#32
  let v591 : BitVec 32 := Scalar.muli v7 c1_i32_583
  let v592 : BitVec 32 := Scalar.addi c0_i32_584 v591
  v592.toNat
def k0_dev35 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_606 : BitVec 32 := 1#32
  let v619 : BitVec 32 := Scalar.muli v7 c1_i32_606
  let v620 : BitVec 32 := Scalar.addi c0_i32_607 v619
  v620.toNat
def k0_dev36 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_623 : BitVec 32 := 1#32
  let v629 : BitVec 32 := Scalar.muli v5 c1_i32_623
  let v630 : BitVec 32 := Scalar.addi c0_i32_624 v629
  v630.toNat
def k0_dev37 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_647 : BitVec 32 := 1#32
  let v658 : BitVec 32 := Scalar.muli v5 c1_i32_647
  let v659 : BitVec 32 := Scalar.addi c0_i32_648 v658
  v659.toNat
def k0_dev38 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_664 : BitVec 32 := 1#32
  let v669 : BitVec 32 := Scalar.muli v7 c1_i32_664
  let v670 : BitVec 32 := Scalar.addi c0_i32_665 v669
  v670.toNat
def k0_dev39 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_687 : BitVec 32 := 1#32
  let v697 : BitVec 32 := Scalar.muli v7 c1_i32_687
  let v698 : BitVec 32 := Scalar.addi c0_i32_688 v697
  v698.toNat
def k0_dev40 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_704 : BitVec 32 := 1#32
  let v707 : BitVec 32 := Scalar.muli v5 c1_i32_704
  let v708 : BitVec 32 := Scalar.addi c0_i32_705 v707
  v708.toNat
def k0_dev41 (d0 : Dev nD) : Nat :=
  let c0_i32_729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_728 : BitVec 32 := 1#32
  let v736 : BitVec 32 := Scalar.muli v5 c1_i32_728
  let v737 : BitVec 32 := Scalar.addi c0_i32_729 v736
  v737.toNat
def k0_dev42 (d0 : Dev nD) : Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_745 : BitVec 32 := 1#32
  let v747 : BitVec 32 := Scalar.muli v7 c1_i32_745
  let v748 : BitVec 32 := Scalar.addi c0_i32_746 v747
  v748.toNat
def k0_dev43 (d0 : Dev nD) : Nat :=
  let c0_i32_769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_768 : BitVec 32 := 1#32
  let v775 : BitVec 32 := Scalar.muli v7 c1_i32_768
  let v776 : BitVec 32 := Scalar.addi c0_i32_769 v775
  v776.toNat
def k0_dev44 (d0 : Dev nD) : Nat :=
  let c0_i32_786 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_785 : BitVec 32 := 1#32
  let v785 : BitVec 32 := Scalar.muli v5 c1_i32_785
  let v786 : BitVec 32 := Scalar.addi c0_i32_786 v785
  v786.toNat
def k0_dev45 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_809 : BitVec 32 := 1#32
  let v814 : BitVec 32 := Scalar.muli v5 c1_i32_809
  let v815 : BitVec 32 := Scalar.addi c0_i32_810 v814
  v815.toNat
def k0_dev46 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_826 : BitVec 32 := 1#32
  let v825 : BitVec 32 := Scalar.muli v7 c1_i32_826
  let v826 : BitVec 32 := Scalar.addi c0_i32_827 v825
  v826.toNat
def k0_dev47 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_849 : BitVec 32 := 1#32
  let v853 : BitVec 32 := Scalar.muli v7 c1_i32_849
  let v854 : BitVec 32 := Scalar.addi c0_i32_850 v853
  v854.toNat
def k0_dev48 (d0 : Dev nD) : Nat :=
  let c0_i32_867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_866 : BitVec 32 := 1#32
  let v863 : BitVec 32 := Scalar.muli v5 c1_i32_866
  let v864 : BitVec 32 := Scalar.addi c0_i32_867 v863
  v864.toNat
def k0_dev49 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_890 : BitVec 32 := 1#32
  let v892 : BitVec 32 := Scalar.muli v5 c1_i32_890
  let v893 : BitVec 32 := Scalar.addi c0_i32_891 v892
  v893.toNat
def k0_dev50 (d0 : Dev nD) : Nat :=
  let c0_i32_908 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_907 : BitVec 32 := 1#32
  let v903 : BitVec 32 := Scalar.muli v7 c1_i32_907
  let v904 : BitVec 32 := Scalar.addi c0_i32_908 v903
  v904.toNat
def k0_dev51 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_930 : BitVec 32 := 1#32
  let v931 : BitVec 32 := Scalar.muli v7 c1_i32_930
  let v932 : BitVec 32 := Scalar.addi c0_i32_931 v931
  v932.toNat
def k0_dev52 (d0 : Dev nD) : Nat :=
  let c0_i32_948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_947 : BitVec 32 := 1#32
  let v941 : BitVec 32 := Scalar.muli v5 c1_i32_947
  let v942 : BitVec 32 := Scalar.addi c0_i32_948 v941
  v942.toNat
def k0_dev53 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_971 : BitVec 32 := 1#32
  let v970 : BitVec 32 := Scalar.muli v5 c1_i32_971
  let v971 : BitVec 32 := Scalar.addi c0_i32_972 v970
  v971.toNat
def k0_dev54 (d0 : Dev nD) : Nat :=
  let c0_i32_989 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_988 : BitVec 32 := 1#32
  let v981 : BitVec 32 := Scalar.muli v7 c1_i32_988
  let v982 : BitVec 32 := Scalar.addi c0_i32_989 v981
  v982.toNat
def k0_dev55 (d0 : Dev nD) : Nat :=
  let c0_i32_1012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1011 : BitVec 32 := 1#32
  let v1009 : BitVec 32 := Scalar.muli v7 c1_i32_1011
  let v1010 : BitVec 32 := Scalar.addi c0_i32_1012 v1009
  v1010.toNat
def k0_dev56 (d0 : Dev nD) : Nat :=
  let c0_i32_1029 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1028 : BitVec 32 := 1#32
  let v1019 : BitVec 32 := Scalar.muli v5 c1_i32_1028
  let v1020 : BitVec 32 := Scalar.addi c0_i32_1029 v1019
  v1020.toNat
def k0_dev57 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1052 : BitVec 32 := 1#32
  let v1048 : BitVec 32 := Scalar.muli v5 c1_i32_1052
  let v1049 : BitVec 32 := Scalar.addi c0_i32_1053 v1048
  v1049.toNat
def k0_dev58 (d0 : Dev nD) : Nat :=
  let c0_i32_1070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1069 : BitVec 32 := 1#32
  let v1059 : BitVec 32 := Scalar.muli v7 c1_i32_1069
  let v1060 : BitVec 32 := Scalar.addi c0_i32_1070 v1059
  v1060.toNat
def k0_dev59 (d0 : Dev nD) : Nat :=
  let c0_i32_1093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1092 : BitVec 32 := 1#32
  let v1087 : BitVec 32 := Scalar.muli v7 c1_i32_1092
  let v1088 : BitVec 32 := Scalar.addi c0_i32_1093 v1087
  v1088.toNat
def k0_dev60 (d0 : Dev nD) : Nat :=
  let c0_i32_1110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1109 : BitVec 32 := 1#32
  let v1097 : BitVec 32 := Scalar.muli v5 c1_i32_1109
  let v1098 : BitVec 32 := Scalar.addi c0_i32_1110 v1097
  v1098.toNat
def k0_dev61 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1133 : BitVec 32 := 1#32
  let v1126 : BitVec 32 := Scalar.muli v5 c1_i32_1133
  let v1127 : BitVec 32 := Scalar.addi c0_i32_1134 v1126
  v1127.toNat
def k0_dev62 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1150 : BitVec 32 := 1#32
  let v1137 : BitVec 32 := Scalar.muli v7 c1_i32_1150
  let v1138 : BitVec 32 := Scalar.addi c0_i32_1151 v1137
  v1138.toNat
def k0_dev63 (d0 : Dev nD) : Nat :=
  let c0_i32_1174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1173 : BitVec 32 := 1#32
  let v1165 : BitVec 32 := Scalar.muli v7 c1_i32_1173
  let v1166 : BitVec 32 := Scalar.addi c0_i32_1174 v1165
  v1166.toNat
def k0_dev64 (d0 : Dev nD) : Nat :=
  let c0_i32_1191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1190 : BitVec 32 := 1#32
  let v1175 : BitVec 32 := Scalar.muli v5 c1_i32_1190
  let v1176 : BitVec 32 := Scalar.addi c0_i32_1191 v1175
  v1176.toNat
def k0_dev65 (d0 : Dev nD) : Nat :=
  let c0_i32_1215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1214 : BitVec 32 := 1#32
  let v1204 : BitVec 32 := Scalar.muli v5 c1_i32_1214
  let v1205 : BitVec 32 := Scalar.addi c0_i32_1215 v1204
  v1205.toNat
def k0_dev66 (d0 : Dev nD) : Nat :=
  let c0_i32_1232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1231 : BitVec 32 := 1#32
  let v1215 : BitVec 32 := Scalar.muli v7 c1_i32_1231
  let v1216 : BitVec 32 := Scalar.addi c0_i32_1232 v1215
  v1216.toNat
def k0_dev67 (d0 : Dev nD) : Nat :=
  let c0_i32_1255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1254 : BitVec 32 := 1#32
  let v1243 : BitVec 32 := Scalar.muli v7 c1_i32_1254
  let v1244 : BitVec 32 := Scalar.addi c0_i32_1255 v1243
  v1244.toNat
def k0_dev68 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1271 : BitVec 32 := 1#32
  let v1253 : BitVec 32 := Scalar.muli v5 c1_i32_1271
  let v1254 : BitVec 32 := Scalar.addi c0_i32_1272 v1253
  v1254.toNat
def k0_dev69 (d0 : Dev nD) : Nat :=
  let c0_i32_1296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1295 : BitVec 32 := 1#32
  let v1282 : BitVec 32 := Scalar.muli v5 c1_i32_1295
  let v1283 : BitVec 32 := Scalar.addi c0_i32_1296 v1282
  v1283.toNat
def k0_dev70 (d0 : Dev nD) : Nat :=
  let c0_i32_1313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1312 : BitVec 32 := 1#32
  let v1293 : BitVec 32 := Scalar.muli v7 c1_i32_1312
  let v1294 : BitVec 32 := Scalar.addi c0_i32_1313 v1293
  v1294.toNat
def k0_dev71 (d0 : Dev nD) : Nat :=
  let c0_i32_1336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1335 : BitVec 32 := 1#32
  let v1321 : BitVec 32 := Scalar.muli v7 c1_i32_1335
  let v1322 : BitVec 32 := Scalar.addi c0_i32_1336 v1321
  v1322.toNat
def k0_dev72 (d0 : Dev nD) : Nat :=
  let c0_i32_1353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1352 : BitVec 32 := 1#32
  let v1331 : BitVec 32 := Scalar.muli v5 c1_i32_1352
  let v1332 : BitVec 32 := Scalar.addi c0_i32_1353 v1331
  v1332.toNat
def k0_dev73 (d0 : Dev nD) : Nat :=
  let c0_i32_1377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1376 : BitVec 32 := 1#32
  let v1360 : BitVec 32 := Scalar.muli v5 c1_i32_1376
  let v1361 : BitVec 32 := Scalar.addi c0_i32_1377 v1360
  v1361.toNat
def k0_dev74 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1393 : BitVec 32 := 1#32
  let v1371 : BitVec 32 := Scalar.muli v7 c1_i32_1393
  let v1372 : BitVec 32 := Scalar.addi c0_i32_1394 v1371
  v1372.toNat
def k0_dev75 (d0 : Dev nD) : Nat :=
  let c0_i32_1417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1416 : BitVec 32 := 1#32
  let v1399 : BitVec 32 := Scalar.muli v7 c1_i32_1416
  let v1400 : BitVec 32 := Scalar.addi c0_i32_1417 v1399
  v1400.toNat
def k0_dev76 (d0 : Dev nD) : Nat :=
  let c0_i32_1434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1433 : BitVec 32 := 1#32
  let v1409 : BitVec 32 := Scalar.muli v5 c1_i32_1433
  let v1410 : BitVec 32 := Scalar.addi c0_i32_1434 v1409
  v1410.toNat
def k0_dev77 (d0 : Dev nD) : Nat :=
  let c0_i32_1458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1457 : BitVec 32 := 1#32
  let v1438 : BitVec 32 := Scalar.muli v5 c1_i32_1457
  let v1439 : BitVec 32 := Scalar.addi c0_i32_1458 v1438
  v1439.toNat
def k0_dev78 (d0 : Dev nD) : Nat :=
  let c0_i32_1475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1474 : BitVec 32 := 1#32
  let v1449 : BitVec 32 := Scalar.muli v7 c1_i32_1474
  let v1450 : BitVec 32 := Scalar.addi c0_i32_1475 v1449
  v1450.toNat
def k0_dev79 (d0 : Dev nD) : Nat :=
  let c0_i32_1498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1497 : BitVec 32 := 1#32
  let v1477 : BitVec 32 := Scalar.muli v7 c1_i32_1497
  let v1478 : BitVec 32 := Scalar.addi c0_i32_1498 v1477
  v1478.toNat
def k0_dev80 (d0 : Dev nD) : Nat :=
  let c0_i32_1515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1514 : BitVec 32 := 1#32
  let v1487 : BitVec 32 := Scalar.muli v5 c1_i32_1514
  let v1488 : BitVec 32 := Scalar.addi c0_i32_1515 v1487
  v1488.toNat
def k0_dev81 (d0 : Dev nD) : Nat :=
  let c0_i32_1539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1538 : BitVec 32 := 1#32
  let v1516 : BitVec 32 := Scalar.muli v5 c1_i32_1538
  let v1517 : BitVec 32 := Scalar.addi c0_i32_1539 v1516
  v1517.toNat
def k0_dev82 (d0 : Dev nD) : Nat :=
  let c0_i32_1556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1555 : BitVec 32 := 1#32
  let v1527 : BitVec 32 := Scalar.muli v7 c1_i32_1555
  let v1528 : BitVec 32 := Scalar.addi c0_i32_1556 v1527
  v1528.toNat
def k0_dev83 (d0 : Dev nD) : Nat :=
  let c0_i32_1579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1578 : BitVec 32 := 1#32
  let v1555 : BitVec 32 := Scalar.muli v7 c1_i32_1578
  let v1556 : BitVec 32 := Scalar.addi c0_i32_1579 v1555
  v1556.toNat
def k0_dev84 (d0 : Dev nD) : Nat :=
  let c0_i32_1596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1595 : BitVec 32 := 1#32
  let v1565 : BitVec 32 := Scalar.muli v5 c1_i32_1595
  let v1566 : BitVec 32 := Scalar.addi c0_i32_1596 v1565
  v1566.toNat
def k0_dev85 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1619 : BitVec 32 := 1#32
  let v1594 : BitVec 32 := Scalar.muli v5 c1_i32_1619
  let v1595 : BitVec 32 := Scalar.addi c0_i32_1620 v1594
  v1595.toNat
def k0_dev86 (d0 : Dev nD) : Nat :=
  let c0_i32_1637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1636 : BitVec 32 := 1#32
  let v1605 : BitVec 32 := Scalar.muli v7 c1_i32_1636
  let v1606 : BitVec 32 := Scalar.addi c0_i32_1637 v1605
  v1606.toNat
def k0_dev87 (d0 : Dev nD) : Nat :=
  let c0_i32_1660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1659 : BitVec 32 := 1#32
  let v1633 : BitVec 32 := Scalar.muli v7 c1_i32_1659
  let v1634 : BitVec 32 := Scalar.addi c0_i32_1660 v1633
  v1634.toNat
def k0_dev88 (d0 : Dev nD) : Nat :=
  let c0_i32_1677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1676 : BitVec 32 := 1#32
  let v1643 : BitVec 32 := Scalar.muli v5 c1_i32_1676
  let v1644 : BitVec 32 := Scalar.addi c0_i32_1677 v1643
  v1644.toNat
def k0_dev89 (d0 : Dev nD) : Nat :=
  let c0_i32_1701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1700 : BitVec 32 := 1#32
  let v1672 : BitVec 32 := Scalar.muli v5 c1_i32_1700
  let v1673 : BitVec 32 := Scalar.addi c0_i32_1701 v1672
  v1673.toNat
def k0_dev90 (d0 : Dev nD) : Nat :=
  let c0_i32_1718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1717 : BitVec 32 := 1#32
  let v1683 : BitVec 32 := Scalar.muli v7 c1_i32_1717
  let v1684 : BitVec 32 := Scalar.addi c0_i32_1718 v1683
  v1684.toNat
def k0_dev91 (d0 : Dev nD) : Nat :=
  let c0_i32_1741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1740 : BitVec 32 := 1#32
  let v1711 : BitVec 32 := Scalar.muli v7 c1_i32_1740
  let v1712 : BitVec 32 := Scalar.addi c0_i32_1741 v1711
  v1712.toNat
def k0_dev92 (d0 : Dev nD) : Nat :=
  let c0_i32_1758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1757 : BitVec 32 := 1#32
  let v1721 : BitVec 32 := Scalar.muli v5 c1_i32_1757
  let v1722 : BitVec 32 := Scalar.addi c0_i32_1758 v1721
  v1722.toNat
def k0_dev93 (d0 : Dev nD) : Nat :=
  let c0_i32_1782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1781 : BitVec 32 := 1#32
  let v1750 : BitVec 32 := Scalar.muli v5 c1_i32_1781
  let v1751 : BitVec 32 := Scalar.addi c0_i32_1782 v1750
  v1751.toNat
def k0_dev94 (d0 : Dev nD) : Nat :=
  let c0_i32_1799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1798 : BitVec 32 := 1#32
  let v1761 : BitVec 32 := Scalar.muli v7 c1_i32_1798
  let v1762 : BitVec 32 := Scalar.addi c0_i32_1799 v1761
  v1762.toNat
def k0_dev95 (d0 : Dev nD) : Nat :=
  let c0_i32_1822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1821 : BitVec 32 := 1#32
  let v1789 : BitVec 32 := Scalar.muli v7 c1_i32_1821
  let v1790 : BitVec 32 := Scalar.addi c0_i32_1822 v1789
  v1790.toNat
def k0_dev96 (d0 : Dev nD) : Nat :=
  let c0_i32_1839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1838 : BitVec 32 := 1#32
  let v1799 : BitVec 32 := Scalar.muli v5 c1_i32_1838
  let v1800 : BitVec 32 := Scalar.addi c0_i32_1839 v1799
  v1800.toNat
def k0_dev97 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1862 : BitVec 32 := 1#32
  let v1828 : BitVec 32 := Scalar.muli v5 c1_i32_1862
  let v1829 : BitVec 32 := Scalar.addi c0_i32_1863 v1828
  v1829.toNat
def k0_dev98 (d0 : Dev nD) : Nat :=
  let c0_i32_1880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1879 : BitVec 32 := 1#32
  let v1839 : BitVec 32 := Scalar.muli v7 c1_i32_1879
  let v1840 : BitVec 32 := Scalar.addi c0_i32_1880 v1839
  v1840.toNat
def k0_dev99 (d0 : Dev nD) : Nat :=
  let c0_i32_1903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1902 : BitVec 32 := 1#32
  let v1867 : BitVec 32 := Scalar.muli v7 c1_i32_1902
  let v1868 : BitVec 32 := Scalar.addi c0_i32_1903 v1867
  v1868.toNat
def k0_dev100 (d0 : Dev nD) : Nat :=
  let c0_i32_1920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1919 : BitVec 32 := 1#32
  let v1877 : BitVec 32 := Scalar.muli v5 c1_i32_1919
  let v1878 : BitVec 32 := Scalar.addi c0_i32_1920 v1877
  v1878.toNat
def k0_dev101 (d0 : Dev nD) : Nat :=
  let c0_i32_1944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1943 : BitVec 32 := 1#32
  let v1906 : BitVec 32 := Scalar.muli v5 c1_i32_1943
  let v1907 : BitVec 32 := Scalar.addi c0_i32_1944 v1906
  v1907.toNat
def k0_dev102 (d0 : Dev nD) : Nat :=
  let c0_i32_1961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1960 : BitVec 32 := 1#32
  let v1917 : BitVec 32 := Scalar.muli v7 c1_i32_1960
  let v1918 : BitVec 32 := Scalar.addi c0_i32_1961 v1917
  v1918.toNat
def k0_dev103 (d0 : Dev nD) : Nat :=
  let c0_i32_1984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1983 : BitVec 32 := 1#32
  let v1945 : BitVec 32 := Scalar.muli v7 c1_i32_1983
  let v1946 : BitVec 32 := Scalar.addi c0_i32_1984 v1945
  v1946.toNat
def k0_dev104 (d0 : Dev nD) : Nat :=
  let c0_i32_2001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2000 : BitVec 32 := 1#32
  let v1955 : BitVec 32 := Scalar.muli v5 c1_i32_2000
  let v1956 : BitVec 32 := Scalar.addi c0_i32_2001 v1955
  v1956.toNat
def k0_dev105 (d0 : Dev nD) : Nat :=
  let c0_i32_2025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2024 : BitVec 32 := 1#32
  let v1984 : BitVec 32 := Scalar.muli v5 c1_i32_2024
  let v1985 : BitVec 32 := Scalar.addi c0_i32_2025 v1984
  v1985.toNat
def k0_dev106 (d0 : Dev nD) : Nat :=
  let c0_i32_2042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2041 : BitVec 32 := 1#32
  let v1995 : BitVec 32 := Scalar.muli v7 c1_i32_2041
  let v1996 : BitVec 32 := Scalar.addi c0_i32_2042 v1995
  v1996.toNat
def k0_dev107 (d0 : Dev nD) : Nat :=
  let c0_i32_2065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2064 : BitVec 32 := 1#32
  let v2023 : BitVec 32 := Scalar.muli v7 c1_i32_2064
  let v2024 : BitVec 32 := Scalar.addi c0_i32_2065 v2023
  v2024.toNat
def k0_dev108 (d0 : Dev nD) : Nat :=
  let c0_i32_2082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2081 : BitVec 32 := 1#32
  let v2033 : BitVec 32 := Scalar.muli v5 c1_i32_2081
  let v2034 : BitVec 32 := Scalar.addi c0_i32_2082 v2033
  v2034.toNat
def k0_dev109 (d0 : Dev nD) : Nat :=
  let c0_i32_2106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2105 : BitVec 32 := 1#32
  let v2062 : BitVec 32 := Scalar.muli v5 c1_i32_2105
  let v2063 : BitVec 32 := Scalar.addi c0_i32_2106 v2062
  v2063.toNat
def k0_dev110 (d0 : Dev nD) : Nat :=
  let c0_i32_2123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2122 : BitVec 32 := 1#32
  let v2073 : BitVec 32 := Scalar.muli v7 c1_i32_2122
  let v2074 : BitVec 32 := Scalar.addi c0_i32_2123 v2073
  v2074.toNat
def k0_dev111 (d0 : Dev nD) : Nat :=
  let c0_i32_2146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2145 : BitVec 32 := 1#32
  let v2101 : BitVec 32 := Scalar.muli v7 c1_i32_2145
  let v2102 : BitVec 32 := Scalar.addi c0_i32_2146 v2101
  v2102.toNat
def k0_dev112 (d0 : Dev nD) : Nat :=
  let c0_i32_2163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2162 : BitVec 32 := 1#32
  let v2111 : BitVec 32 := Scalar.muli v5 c1_i32_2162
  let v2112 : BitVec 32 := Scalar.addi c0_i32_2163 v2111
  v2112.toNat
def k0_dev113 (d0 : Dev nD) : Nat :=
  let c0_i32_2187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2186 : BitVec 32 := 1#32
  let v2140 : BitVec 32 := Scalar.muli v5 c1_i32_2186
  let v2141 : BitVec 32 := Scalar.addi c0_i32_2187 v2140
  v2141.toNat
def k0_dev114 (d0 : Dev nD) : Nat :=
  let c0_i32_2204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2203 : BitVec 32 := 1#32
  let v2151 : BitVec 32 := Scalar.muli v7 c1_i32_2203
  let v2152 : BitVec 32 := Scalar.addi c0_i32_2204 v2151
  v2152.toNat
def k0_dev115 (d0 : Dev nD) : Nat :=
  let c0_i32_2227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2226 : BitVec 32 := 1#32
  let v2179 : BitVec 32 := Scalar.muli v7 c1_i32_2226
  let v2180 : BitVec 32 := Scalar.addi c0_i32_2227 v2179
  v2180.toNat
def k0_dev116 (d0 : Dev nD) : Nat :=
  let c0_i32_2244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2243 : BitVec 32 := 1#32
  let v2189 : BitVec 32 := Scalar.muli v5 c1_i32_2243
  let v2190 : BitVec 32 := Scalar.addi c0_i32_2244 v2189
  v2190.toNat
def k0_dev117 (d0 : Dev nD) : Nat :=
  let c0_i32_2268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2267 : BitVec 32 := 1#32
  let v2218 : BitVec 32 := Scalar.muli v5 c1_i32_2267
  let v2219 : BitVec 32 := Scalar.addi c0_i32_2268 v2218
  v2219.toNat
def k0_dev118 (d0 : Dev nD) : Nat :=
  let c0_i32_2285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2284 : BitVec 32 := 1#32
  let v2229 : BitVec 32 := Scalar.muli v7 c1_i32_2284
  let v2230 : BitVec 32 := Scalar.addi c0_i32_2285 v2229
  v2230.toNat
def k0_dev119 (d0 : Dev nD) : Nat :=
  let c0_i32_2308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2307 : BitVec 32 := 1#32
  let v2257 : BitVec 32 := Scalar.muli v7 c1_i32_2307
  let v2258 : BitVec 32 := Scalar.addi c0_i32_2308 v2257
  v2258.toNat
def k0_dev120 (d0 : Dev nD) : Nat :=
  let c0_i32_2325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2324 : BitVec 32 := 1#32
  let v2267 : BitVec 32 := Scalar.muli v5 c1_i32_2324
  let v2268 : BitVec 32 := Scalar.addi c0_i32_2325 v2267
  v2268.toNat
def k0_dev121 (d0 : Dev nD) : Nat :=
  let c0_i32_2349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2348 : BitVec 32 := 1#32
  let v2296 : BitVec 32 := Scalar.muli v5 c1_i32_2348
  let v2297 : BitVec 32 := Scalar.addi c0_i32_2349 v2296
  v2297.toNat
def k0_dev122 (d0 : Dev nD) : Nat :=
  let c0_i32_2366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2365 : BitVec 32 := 1#32
  let v2307 : BitVec 32 := Scalar.muli v7 c1_i32_2365
  let v2308 : BitVec 32 := Scalar.addi c0_i32_2366 v2307
  v2308.toNat
def k0_dev123 (d0 : Dev nD) : Nat :=
  let c0_i32_2389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2388 : BitVec 32 := 1#32
  let v2335 : BitVec 32 := Scalar.muli v7 c1_i32_2388
  let v2336 : BitVec 32 := Scalar.addi c0_i32_2389 v2335
  v2336.toNat
def k0_dev124 (d0 : Dev nD) : Nat :=
  let c0_i32_2406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2405 : BitVec 32 := 1#32
  let v2345 : BitVec 32 := Scalar.muli v5 c1_i32_2405
  let v2346 : BitVec 32 := Scalar.addi c0_i32_2406 v2345
  v2346.toNat
def k0_dev125 (d0 : Dev nD) : Nat :=
  let c0_i32_2435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2434 : BitVec 32 := 1#32
  let v2383 : BitVec 32 := Scalar.muli v5 c1_i32_2434
  let v2384 : BitVec 32 := Scalar.addi c0_i32_2435 v2383
  v2384.toNat
def k0_off5 (d0 : Dev nD) (c0_i32_2446 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2445 : BitVec 32 := 1#32
  let v2390 : BitVec 32 := Scalar.addi v2 c1_i32_2445
  let v2391 : BitVec 32 := Scalar.subi v2390 c0_i32_2446
  let c32_i32_2447 : BitVec 32 := 32#32
  let v2392 : BitVec 32 := Scalar.addi v2391 c32_i32_2447
  let c32_i32_2448 : BitVec 32 := 32#32
  let v2393 : BitVec 32 := Scalar.remsi v2392 c32_i32_2448
  let c128_i32_2450 : BitVec 32 := 128#32
  let v2395 : BitVec 32 := Scalar.muli v2393 c128_i32_2450
  let c0_i32_2455 : BitVec 32 := 0#32
  ![v2395.toNat, 0]
def k0_dev126 (d0 : Dev nD) : Nat :=
  let c0_i32_2454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2453 : BitVec 32 := 1#32
  let v2396 : BitVec 32 := Scalar.muli v7 c1_i32_2453
  let v2397 : BitVec 32 := Scalar.addi c0_i32_2454 v2396
  v2397.toNat
def k0_dev127 (d0 : Dev nD) : Nat :=
  let c0_i32_2481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2480 : BitVec 32 := 1#32
  let v2432 : BitVec 32 := Scalar.muli v7 c1_i32_2480
  let v2433 : BitVec 32 := Scalar.addi c0_i32_2481 v2432
  v2433.toNat
def k0_off6 (d0 : Dev nD) (c0_i32_2492 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2491 : BitVec 32 := 1#32
  let v2439 : BitVec 32 := Scalar.subi v2 c1_i32_2491
  let v2440 : BitVec 32 := Scalar.addi v2439 c0_i32_2492
  let c32_i32_2493 : BitVec 32 := 32#32
  let v2441 : BitVec 32 := Scalar.addi v2440 c32_i32_2493
  let c32_i32_2494 : BitVec 32 := 32#32
  let v2442 : BitVec 32 := Scalar.remsi v2441 c32_i32_2494
  let c128_i32_2496 : BitVec 32 := 128#32
  let v2444 : BitVec 32 := Scalar.muli v2442 c128_i32_2496
  let c1024_i32_2501 : BitVec 32 := 1024#32
  ![v2444.toNat, 1024]
def k0_dev128 (d0 : Dev nD) : Nat :=
  let c0_i32_2500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2499 : BitVec 32 := 1#32
  let v2445 : BitVec 32 := Scalar.muli v5 c1_i32_2499
  let v2446 : BitVec 32 := Scalar.addi c0_i32_2500 v2445
  v2446.toNat
def k0_dev129 (d0 : Dev nD) : Nat :=
  let c0_i32_2511 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2510 : BitVec 32 := 1#32
  let v2459 : BitVec 32 := Scalar.muli v5 c1_i32_2510
  let v2460 : BitVec 32 := Scalar.addi c0_i32_2511 v2459
  v2460.toNat
def k0_dev130 (d0 : Dev nD) : Nat :=
  let c0_i32_2530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2529 : BitVec 32 := 1#32
  let v2472 : BitVec 32 := Scalar.muli v7 c1_i32_2529
  let v2473 : BitVec 32 := Scalar.addi c0_i32_2530 v2472
  v2473.toNat
def k0_dev131 (d0 : Dev nD) : Nat :=
  let c0_i32_2541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2540 : BitVec 32 := 1#32
  let v2486 : BitVec 32 := Scalar.muli v7 c1_i32_2540
  let v2487 : BitVec 32 := Scalar.addi c0_i32_2541 v2486
  v2487.toNat
def k0_dev132 (d0 : Dev nD) : Nat :=
  let c0_i32_2560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2559 : BitVec 32 := 1#32
  let v2499 : BitVec 32 := Scalar.muli v5 c1_i32_2559
  let v2500 : BitVec 32 := Scalar.addi c0_i32_2560 v2499
  v2500.toNat
def k0_dev133 (d0 : Dev nD) : Nat :=
  let c0_i32_2571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2570 : BitVec 32 := 1#32
  let v2513 : BitVec 32 := Scalar.muli v5 c1_i32_2570
  let v2514 : BitVec 32 := Scalar.addi c0_i32_2571 v2513
  v2514.toNat
def k0_dev134 (d0 : Dev nD) : Nat :=
  let c0_i32_2590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2589 : BitVec 32 := 1#32
  let v2526 : BitVec 32 := Scalar.muli v7 c1_i32_2589
  let v2527 : BitVec 32 := Scalar.addi c0_i32_2590 v2526
  v2527.toNat
def k0_dev135 (d0 : Dev nD) : Nat :=
  let c0_i32_2601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2600 : BitVec 32 := 1#32
  let v2540 : BitVec 32 := Scalar.muli v7 c1_i32_2600
  let v2541 : BitVec 32 := Scalar.addi c0_i32_2601 v2540
  v2541.toNat
def k0_dev136 (d0 : Dev nD) : Nat :=
  let c0_i32_2620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2619 : BitVec 32 := 1#32
  let v2553 : BitVec 32 := Scalar.muli v5 c1_i32_2619
  let v2554 : BitVec 32 := Scalar.addi c0_i32_2620 v2553
  v2554.toNat
def k0_dev137 (d0 : Dev nD) : Nat :=
  let c0_i32_2631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2630 : BitVec 32 := 1#32
  let v2567 : BitVec 32 := Scalar.muli v5 c1_i32_2630
  let v2568 : BitVec 32 := Scalar.addi c0_i32_2631 v2567
  v2568.toNat
def k0_dev138 (d0 : Dev nD) : Nat :=
  let c0_i32_2650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2649 : BitVec 32 := 1#32
  let v2580 : BitVec 32 := Scalar.muli v7 c1_i32_2649
  let v2581 : BitVec 32 := Scalar.addi c0_i32_2650 v2580
  v2581.toNat
def k0_dev139 (d0 : Dev nD) : Nat :=
  let c0_i32_2661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2660 : BitVec 32 := 1#32
  let v2594 : BitVec 32 := Scalar.muli v7 c1_i32_2660
  let v2595 : BitVec 32 := Scalar.addi c0_i32_2661 v2594
  v2595.toNat
def k0_dev140 (d0 : Dev nD) : Nat :=
  let c0_i32_2680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2679 : BitVec 32 := 1#32
  let v2607 : BitVec 32 := Scalar.muli v5 c1_i32_2679
  let v2608 : BitVec 32 := Scalar.addi c0_i32_2680 v2607
  v2608.toNat
def k0_dev141 (d0 : Dev nD) : Nat :=
  let c0_i32_2691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2690 : BitVec 32 := 1#32
  let v2621 : BitVec 32 := Scalar.muli v5 c1_i32_2690
  let v2622 : BitVec 32 := Scalar.addi c0_i32_2691 v2621
  v2622.toNat
def k0_dev142 (d0 : Dev nD) : Nat :=
  let c0_i32_2708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2707 : BitVec 32 := 1#32
  let v2633 : BitVec 32 := Scalar.muli v7 c1_i32_2707
  let v2634 : BitVec 32 := Scalar.addi c0_i32_2708 v2633
  v2634.toNat
def k0_dev143 (d0 : Dev nD) : Nat :=
  let c0_i32_2719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2718 : BitVec 32 := 1#32
  let v2647 : BitVec 32 := Scalar.muli v7 c1_i32_2718
  let v2648 : BitVec 32 := Scalar.addi c0_i32_2719 v2647
  v2648.toNat
def k0_dev144 (d0 : Dev nD) : Nat :=
  let c0_i32_2736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2735 : BitVec 32 := 1#32
  let v2659 : BitVec 32 := Scalar.muli v5 c1_i32_2735
  let v2660 : BitVec 32 := Scalar.addi c0_i32_2736 v2659
  v2660.toNat
def k0_dev145 (d0 : Dev nD) : Nat :=
  let c0_i32_2747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2746 : BitVec 32 := 1#32
  let v2673 : BitVec 32 := Scalar.muli v5 c1_i32_2746
  let v2674 : BitVec 32 := Scalar.addi c0_i32_2747 v2673
  v2674.toNat
def k0_dev146 (d0 : Dev nD) : Nat :=
  let c0_i32_2764 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2763 : BitVec 32 := 1#32
  let v2685 : BitVec 32 := Scalar.muli v7 c1_i32_2763
  let v2686 : BitVec 32 := Scalar.addi c0_i32_2764 v2685
  v2686.toNat
def k0_dev147 (d0 : Dev nD) : Nat :=
  let c0_i32_2775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2774 : BitVec 32 := 1#32
  let v2699 : BitVec 32 := Scalar.muli v7 c1_i32_2774
  let v2700 : BitVec 32 := Scalar.addi c0_i32_2775 v2699
  v2700.toNat
def k0_dev148 (d0 : Dev nD) : Nat :=
  let c0_i32_2792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2791 : BitVec 32 := 1#32
  let v2711 : BitVec 32 := Scalar.muli v5 c1_i32_2791
  let v2712 : BitVec 32 := Scalar.addi c0_i32_2792 v2711
  v2712.toNat
def k0_dev149 (d0 : Dev nD) : Nat :=
  let c0_i32_2803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2802 : BitVec 32 := 1#32
  let v2725 : BitVec 32 := Scalar.muli v5 c1_i32_2802
  let v2726 : BitVec 32 := Scalar.addi c0_i32_2803 v2725
  v2726.toNat
def k0_dev150 (d0 : Dev nD) : Nat :=
  let c0_i32_2820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2819 : BitVec 32 := 1#32
  let v2737 : BitVec 32 := Scalar.muli v7 c1_i32_2819
  let v2738 : BitVec 32 := Scalar.addi c0_i32_2820 v2737
  v2738.toNat
def k0_dev151 (d0 : Dev nD) : Nat :=
  let c0_i32_2831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2830 : BitVec 32 := 1#32
  let v2751 : BitVec 32 := Scalar.muli v7 c1_i32_2830
  let v2752 : BitVec 32 := Scalar.addi c0_i32_2831 v2751
  v2752.toNat
def k0_dev152 (d0 : Dev nD) : Nat :=
  let c0_i32_2848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2847 : BitVec 32 := 1#32
  let v2763 : BitVec 32 := Scalar.muli v5 c1_i32_2847
  let v2764 : BitVec 32 := Scalar.addi c0_i32_2848 v2763
  v2764.toNat
def k0_dev153 (d0 : Dev nD) : Nat :=
  let c0_i32_2859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2858 : BitVec 32 := 1#32
  let v2777 : BitVec 32 := Scalar.muli v5 c1_i32_2858
  let v2778 : BitVec 32 := Scalar.addi c0_i32_2859 v2777
  v2778.toNat
def k0_dev154 (d0 : Dev nD) : Nat :=
  let c0_i32_2876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2875 : BitVec 32 := 1#32
  let v2789 : BitVec 32 := Scalar.muli v7 c1_i32_2875
  let v2790 : BitVec 32 := Scalar.addi c0_i32_2876 v2789
  v2790.toNat
def k0_dev155 (d0 : Dev nD) : Nat :=
  let c0_i32_2887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2886 : BitVec 32 := 1#32
  let v2803 : BitVec 32 := Scalar.muli v7 c1_i32_2886
  let v2804 : BitVec 32 := Scalar.addi c0_i32_2887 v2803
  v2804.toNat
def k0_dev156 (d0 : Dev nD) : Nat :=
  let c0_i32_2904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2903 : BitVec 32 := 1#32
  let v2815 : BitVec 32 := Scalar.muli v5 c1_i32_2903
  let v2816 : BitVec 32 := Scalar.addi c0_i32_2904 v2815
  v2816.toNat
def k0_dev157 (d0 : Dev nD) : Nat :=
  let c0_i32_2915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2914 : BitVec 32 := 1#32
  let v2829 : BitVec 32 := Scalar.muli v5 c1_i32_2914
  let v2830 : BitVec 32 := Scalar.addi c0_i32_2915 v2829
  v2830.toNat
def k0_dev158 (d0 : Dev nD) : Nat :=
  let c0_i32_2932 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2931 : BitVec 32 := 1#32
  let v2841 : BitVec 32 := Scalar.muli v7 c1_i32_2931
  let v2842 : BitVec 32 := Scalar.addi c0_i32_2932 v2841
  v2842.toNat
def k0_dev159 (d0 : Dev nD) : Nat :=
  let c0_i32_2943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2942 : BitVec 32 := 1#32
  let v2855 : BitVec 32 := Scalar.muli v7 c1_i32_2942
  let v2856 : BitVec 32 := Scalar.addi c0_i32_2943 v2855
  v2856.toNat
def k0_dev160 (d0 : Dev nD) : Nat :=
  let c0_i32_2960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2959 : BitVec 32 := 1#32
  let v2867 : BitVec 32 := Scalar.muli v5 c1_i32_2959
  let v2868 : BitVec 32 := Scalar.addi c0_i32_2960 v2867
  v2868.toNat
def k0_dev161 (d0 : Dev nD) : Nat :=
  let c0_i32_2971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2970 : BitVec 32 := 1#32
  let v2881 : BitVec 32 := Scalar.muli v5 c1_i32_2970
  let v2882 : BitVec 32 := Scalar.addi c0_i32_2971 v2881
  v2882.toNat
def k0_dev162 (d0 : Dev nD) : Nat :=
  let c0_i32_2988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2987 : BitVec 32 := 1#32
  let v2893 : BitVec 32 := Scalar.muli v7 c1_i32_2987
  let v2894 : BitVec 32 := Scalar.addi c0_i32_2988 v2893
  v2894.toNat
def k0_dev163 (d0 : Dev nD) : Nat :=
  let c0_i32_2999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2998 : BitVec 32 := 1#32
  let v2907 : BitVec 32 := Scalar.muli v7 c1_i32_2998
  let v2908 : BitVec 32 := Scalar.addi c0_i32_2999 v2907
  v2908.toNat
def k0_dev164 (d0 : Dev nD) : Nat :=
  let c0_i32_3016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3015 : BitVec 32 := 1#32
  let v2919 : BitVec 32 := Scalar.muli v5 c1_i32_3015
  let v2920 : BitVec 32 := Scalar.addi c0_i32_3016 v2919
  v2920.toNat
def k0_dev165 (d0 : Dev nD) : Nat :=
  let c0_i32_3027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3026 : BitVec 32 := 1#32
  let v2933 : BitVec 32 := Scalar.muli v5 c1_i32_3026
  let v2934 : BitVec 32 := Scalar.addi c0_i32_3027 v2933
  v2934.toNat
def k0_dev166 (d0 : Dev nD) : Nat :=
  let c0_i32_3044 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3043 : BitVec 32 := 1#32
  let v2945 : BitVec 32 := Scalar.muli v7 c1_i32_3043
  let v2946 : BitVec 32 := Scalar.addi c0_i32_3044 v2945
  v2946.toNat
def k0_dev167 (d0 : Dev nD) : Nat :=
  let c0_i32_3055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3054 : BitVec 32 := 1#32
  let v2959 : BitVec 32 := Scalar.muli v7 c1_i32_3054
  let v2960 : BitVec 32 := Scalar.addi c0_i32_3055 v2959
  v2960.toNat
def k0_dev168 (d0 : Dev nD) : Nat :=
  let c0_i32_3072 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3071 : BitVec 32 := 1#32
  let v2971 : BitVec 32 := Scalar.muli v5 c1_i32_3071
  let v2972 : BitVec 32 := Scalar.addi c0_i32_3072 v2971
  v2972.toNat
def k0_dev169 (d0 : Dev nD) : Nat :=
  let c0_i32_3083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3082 : BitVec 32 := 1#32
  let v2985 : BitVec 32 := Scalar.muli v5 c1_i32_3082
  let v2986 : BitVec 32 := Scalar.addi c0_i32_3083 v2985
  v2986.toNat
def k0_dev170 (d0 : Dev nD) : Nat :=
  let c0_i32_3100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3099 : BitVec 32 := 1#32
  let v2997 : BitVec 32 := Scalar.muli v7 c1_i32_3099
  let v2998 : BitVec 32 := Scalar.addi c0_i32_3100 v2997
  v2998.toNat
def k0_dev171 (d0 : Dev nD) : Nat :=
  let c0_i32_3111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3110 : BitVec 32 := 1#32
  let v3011 : BitVec 32 := Scalar.muli v7 c1_i32_3110
  let v3012 : BitVec 32 := Scalar.addi c0_i32_3111 v3011
  v3012.toNat
def k0_dev172 (d0 : Dev nD) : Nat :=
  let c0_i32_3128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3127 : BitVec 32 := 1#32
  let v3023 : BitVec 32 := Scalar.muli v5 c1_i32_3127
  let v3024 : BitVec 32 := Scalar.addi c0_i32_3128 v3023
  v3024.toNat
def k0_dev173 (d0 : Dev nD) : Nat :=
  let c0_i32_3139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3138 : BitVec 32 := 1#32
  let v3037 : BitVec 32 := Scalar.muli v5 c1_i32_3138
  let v3038 : BitVec 32 := Scalar.addi c0_i32_3139 v3037
  v3038.toNat
def k0_dev174 (d0 : Dev nD) : Nat :=
  let c0_i32_3156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3155 : BitVec 32 := 1#32
  let v3049 : BitVec 32 := Scalar.muli v7 c1_i32_3155
  let v3050 : BitVec 32 := Scalar.addi c0_i32_3156 v3049
  v3050.toNat
def k0_dev175 (d0 : Dev nD) : Nat :=
  let c0_i32_3167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3166 : BitVec 32 := 1#32
  let v3063 : BitVec 32 := Scalar.muli v7 c1_i32_3166
  let v3064 : BitVec 32 := Scalar.addi c0_i32_3167 v3063
  v3064.toNat
def k0_dev176 (d0 : Dev nD) : Nat :=
  let c0_i32_3184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3183 : BitVec 32 := 1#32
  let v3075 : BitVec 32 := Scalar.muli v5 c1_i32_3183
  let v3076 : BitVec 32 := Scalar.addi c0_i32_3184 v3075
  v3076.toNat
def k0_dev177 (d0 : Dev nD) : Nat :=
  let c0_i32_3195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3194 : BitVec 32 := 1#32
  let v3089 : BitVec 32 := Scalar.muli v5 c1_i32_3194
  let v3090 : BitVec 32 := Scalar.addi c0_i32_3195 v3089
  v3090.toNat
def k0_dev178 (d0 : Dev nD) : Nat :=
  let c0_i32_3212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3211 : BitVec 32 := 1#32
  let v3101 : BitVec 32 := Scalar.muli v7 c1_i32_3211
  let v3102 : BitVec 32 := Scalar.addi c0_i32_3212 v3101
  v3102.toNat
def k0_dev179 (d0 : Dev nD) : Nat :=
  let c0_i32_3223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3222 : BitVec 32 := 1#32
  let v3115 : BitVec 32 := Scalar.muli v7 c1_i32_3222
  let v3116 : BitVec 32 := Scalar.addi c0_i32_3223 v3115
  v3116.toNat
def k0_dev180 (d0 : Dev nD) : Nat :=
  let c0_i32_3240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3239 : BitVec 32 := 1#32
  let v3127 : BitVec 32 := Scalar.muli v5 c1_i32_3239
  let v3128 : BitVec 32 := Scalar.addi c0_i32_3240 v3127
  v3128.toNat
def k0_dev181 (d0 : Dev nD) : Nat :=
  let c0_i32_3251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3250 : BitVec 32 := 1#32
  let v3141 : BitVec 32 := Scalar.muli v5 c1_i32_3250
  let v3142 : BitVec 32 := Scalar.addi c0_i32_3251 v3141
  v3142.toNat
def k0_dev182 (d0 : Dev nD) : Nat :=
  let c0_i32_3268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3267 : BitVec 32 := 1#32
  let v3153 : BitVec 32 := Scalar.muli v7 c1_i32_3267
  let v3154 : BitVec 32 := Scalar.addi c0_i32_3268 v3153
  v3154.toNat
def k0_dev183 (d0 : Dev nD) : Nat :=
  let c0_i32_3279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3278 : BitVec 32 := 1#32
  let v3167 : BitVec 32 := Scalar.muli v7 c1_i32_3278
  let v3168 : BitVec 32 := Scalar.addi c0_i32_3279 v3167
  v3168.toNat
def k0_dev184 (d0 : Dev nD) : Nat :=
  let c0_i32_3296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3295 : BitVec 32 := 1#32
  let v3179 : BitVec 32 := Scalar.muli v5 c1_i32_3295
  let v3180 : BitVec 32 := Scalar.addi c0_i32_3296 v3179
  v3180.toNat
def k0_dev185 (d0 : Dev nD) : Nat :=
  let c0_i32_3307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3306 : BitVec 32 := 1#32
  let v3193 : BitVec 32 := Scalar.muli v5 c1_i32_3306
  let v3194 : BitVec 32 := Scalar.addi c0_i32_3307 v3193
  v3194.toNat
def k0_dev186 (d0 : Dev nD) : Nat :=
  let c0_i32_3324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3323 : BitVec 32 := 1#32
  let v3205 : BitVec 32 := Scalar.muli v7 c1_i32_3323
  let v3206 : BitVec 32 := Scalar.addi c0_i32_3324 v3205
  v3206.toNat
def k0_dev187 (d0 : Dev nD) : Nat :=
  let c0_i32_3335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3334 : BitVec 32 := 1#32
  let v3219 : BitVec 32 := Scalar.muli v7 c1_i32_3334
  let v3220 : BitVec 32 := Scalar.addi c0_i32_3335 v3219
  v3220.toNat
def k0_dev188 (d0 : Dev nD) : Nat :=
  let c0_i32_3352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3351 : BitVec 32 := 1#32
  let v3231 : BitVec 32 := Scalar.muli v5 c1_i32_3351
  let v3232 : BitVec 32 := Scalar.addi c0_i32_3352 v3231
  v3232.toNat
def k0_dev189 (d0 : Dev nD) : Nat :=
  let c0_i32_3363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3362 : BitVec 32 := 1#32
  let v3245 : BitVec 32 := Scalar.muli v5 c1_i32_3362
  let v3246 : BitVec 32 := Scalar.addi c0_i32_3363 v3245
  v3246.toNat
def k0_dev190 (d0 : Dev nD) : Nat :=
  let c0_i32_3380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3379 : BitVec 32 := 1#32
  let v3257 : BitVec 32 := Scalar.muli v7 c1_i32_3379
  let v3258 : BitVec 32 := Scalar.addi c0_i32_3380 v3257
  v3258.toNat
def k0_dev191 (d0 : Dev nD) : Nat :=
  let c0_i32_3391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3390 : BitVec 32 := 1#32
  let v3271 : BitVec 32 := Scalar.muli v7 c1_i32_3390
  let v3272 : BitVec 32 := Scalar.addi c0_i32_3391 v3271
  v3272.toNat
def k0_dev192 (d0 : Dev nD) : Nat :=
  let c0_i32_3408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3407 : BitVec 32 := 1#32
  let v3283 : BitVec 32 := Scalar.muli v5 c1_i32_3407
  let v3284 : BitVec 32 := Scalar.addi c0_i32_3408 v3283
  v3284.toNat
def k0_dev193 (d0 : Dev nD) : Nat :=
  let c0_i32_3419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3418 : BitVec 32 := 1#32
  let v3297 : BitVec 32 := Scalar.muli v5 c1_i32_3418
  let v3298 : BitVec 32 := Scalar.addi c0_i32_3419 v3297
  v3298.toNat
def k0_dev194 (d0 : Dev nD) : Nat :=
  let c0_i32_3436 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3435 : BitVec 32 := 1#32
  let v3309 : BitVec 32 := Scalar.muli v7 c1_i32_3435
  let v3310 : BitVec 32 := Scalar.addi c0_i32_3436 v3309
  v3310.toNat
def k0_dev195 (d0 : Dev nD) : Nat :=
  let c0_i32_3447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3446 : BitVec 32 := 1#32
  let v3323 : BitVec 32 := Scalar.muli v7 c1_i32_3446
  let v3324 : BitVec 32 := Scalar.addi c0_i32_3447 v3323
  v3324.toNat
def k0_dev196 (d0 : Dev nD) : Nat :=
  let c0_i32_3464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3463 : BitVec 32 := 1#32
  let v3335 : BitVec 32 := Scalar.muli v5 c1_i32_3463
  let v3336 : BitVec 32 := Scalar.addi c0_i32_3464 v3335
  v3336.toNat
def k0_dev197 (d0 : Dev nD) : Nat :=
  let c0_i32_3475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3474 : BitVec 32 := 1#32
  let v3349 : BitVec 32 := Scalar.muli v5 c1_i32_3474
  let v3350 : BitVec 32 := Scalar.addi c0_i32_3475 v3349
  v3350.toNat
def k0_dev198 (d0 : Dev nD) : Nat :=
  let c0_i32_3492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3491 : BitVec 32 := 1#32
  let v3361 : BitVec 32 := Scalar.muli v7 c1_i32_3491
  let v3362 : BitVec 32 := Scalar.addi c0_i32_3492 v3361
  v3362.toNat
def k0_dev199 (d0 : Dev nD) : Nat :=
  let c0_i32_3503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3502 : BitVec 32 := 1#32
  let v3375 : BitVec 32 := Scalar.muli v7 c1_i32_3502
  let v3376 : BitVec 32 := Scalar.addi c0_i32_3503 v3375
  v3376.toNat
def k0_dev200 (d0 : Dev nD) : Nat :=
  let c0_i32_3520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3519 : BitVec 32 := 1#32
  let v3387 : BitVec 32 := Scalar.muli v5 c1_i32_3519
  let v3388 : BitVec 32 := Scalar.addi c0_i32_3520 v3387
  v3388.toNat
def k0_dev201 (d0 : Dev nD) : Nat :=
  let c0_i32_3531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3530 : BitVec 32 := 1#32
  let v3401 : BitVec 32 := Scalar.muli v5 c1_i32_3530
  let v3402 : BitVec 32 := Scalar.addi c0_i32_3531 v3401
  v3402.toNat
def k0_dev202 (d0 : Dev nD) : Nat :=
  let c0_i32_3548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3547 : BitVec 32 := 1#32
  let v3413 : BitVec 32 := Scalar.muli v7 c1_i32_3547
  let v3414 : BitVec 32 := Scalar.addi c0_i32_3548 v3413
  v3414.toNat
def k0_dev203 (d0 : Dev nD) : Nat :=
  let c0_i32_3559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3558 : BitVec 32 := 1#32
  let v3427 : BitVec 32 := Scalar.muli v7 c1_i32_3558
  let v3428 : BitVec 32 := Scalar.addi c0_i32_3559 v3427
  v3428.toNat
def k0_dev204 (d0 : Dev nD) : Nat :=
  let c0_i32_3576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3575 : BitVec 32 := 1#32
  let v3439 : BitVec 32 := Scalar.muli v5 c1_i32_3575
  let v3440 : BitVec 32 := Scalar.addi c0_i32_3576 v3439
  v3440.toNat
def k0_dev205 (d0 : Dev nD) : Nat :=
  let c0_i32_3587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3586 : BitVec 32 := 1#32
  let v3453 : BitVec 32 := Scalar.muli v5 c1_i32_3586
  let v3454 : BitVec 32 := Scalar.addi c0_i32_3587 v3453
  v3454.toNat
def k0_dev206 (d0 : Dev nD) : Nat :=
  let c0_i32_3604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3603 : BitVec 32 := 1#32
  let v3465 : BitVec 32 := Scalar.muli v7 c1_i32_3603
  let v3466 : BitVec 32 := Scalar.addi c0_i32_3604 v3465
  v3466.toNat
def k0_dev207 (d0 : Dev nD) : Nat :=
  let c0_i32_3615 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3614 : BitVec 32 := 1#32
  let v3479 : BitVec 32 := Scalar.muli v7 c1_i32_3614
  let v3480 : BitVec 32 := Scalar.addi c0_i32_3615 v3479
  v3480.toNat
def k0_dev208 (d0 : Dev nD) : Nat :=
  let c0_i32_3632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3631 : BitVec 32 := 1#32
  let v3491 : BitVec 32 := Scalar.muli v5 c1_i32_3631
  let v3492 : BitVec 32 := Scalar.addi c0_i32_3632 v3491
  v3492.toNat
def k0_dev209 (d0 : Dev nD) : Nat :=
  let c0_i32_3643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3642 : BitVec 32 := 1#32
  let v3505 : BitVec 32 := Scalar.muli v5 c1_i32_3642
  let v3506 : BitVec 32 := Scalar.addi c0_i32_3643 v3505
  v3506.toNat
def k0_dev210 (d0 : Dev nD) : Nat :=
  let c0_i32_3660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3659 : BitVec 32 := 1#32
  let v3517 : BitVec 32 := Scalar.muli v7 c1_i32_3659
  let v3518 : BitVec 32 := Scalar.addi c0_i32_3660 v3517
  v3518.toNat
def k0_dev211 (d0 : Dev nD) : Nat :=
  let c0_i32_3671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3670 : BitVec 32 := 1#32
  let v3531 : BitVec 32 := Scalar.muli v7 c1_i32_3670
  let v3532 : BitVec 32 := Scalar.addi c0_i32_3671 v3531
  v3532.toNat
def k0_dev212 (d0 : Dev nD) : Nat :=
  let c0_i32_3688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3687 : BitVec 32 := 1#32
  let v3543 : BitVec 32 := Scalar.muli v5 c1_i32_3687
  let v3544 : BitVec 32 := Scalar.addi c0_i32_3688 v3543
  v3544.toNat
def k0_dev213 (d0 : Dev nD) : Nat :=
  let c0_i32_3699 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3698 : BitVec 32 := 1#32
  let v3557 : BitVec 32 := Scalar.muli v5 c1_i32_3698
  let v3558 : BitVec 32 := Scalar.addi c0_i32_3699 v3557
  v3558.toNat
def k0_dev214 (d0 : Dev nD) : Nat :=
  let c0_i32_3716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3715 : BitVec 32 := 1#32
  let v3569 : BitVec 32 := Scalar.muli v7 c1_i32_3715
  let v3570 : BitVec 32 := Scalar.addi c0_i32_3716 v3569
  v3570.toNat
def k0_dev215 (d0 : Dev nD) : Nat :=
  let c0_i32_3727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3726 : BitVec 32 := 1#32
  let v3583 : BitVec 32 := Scalar.muli v7 c1_i32_3726
  let v3584 : BitVec 32 := Scalar.addi c0_i32_3727 v3583
  v3584.toNat
def k0_dev216 (d0 : Dev nD) : Nat :=
  let c0_i32_3744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3743 : BitVec 32 := 1#32
  let v3595 : BitVec 32 := Scalar.muli v5 c1_i32_3743
  let v3596 : BitVec 32 := Scalar.addi c0_i32_3744 v3595
  v3596.toNat
def k0_dev217 (d0 : Dev nD) : Nat :=
  let c0_i32_3755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3754 : BitVec 32 := 1#32
  let v3609 : BitVec 32 := Scalar.muli v5 c1_i32_3754
  let v3610 : BitVec 32 := Scalar.addi c0_i32_3755 v3609
  v3610.toNat
def k0_dev218 (d0 : Dev nD) : Nat :=
  let c0_i32_3772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3771 : BitVec 32 := 1#32
  let v3621 : BitVec 32 := Scalar.muli v7 c1_i32_3771
  let v3622 : BitVec 32 := Scalar.addi c0_i32_3772 v3621
  v3622.toNat
def k0_dev219 (d0 : Dev nD) : Nat :=
  let c0_i32_3783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3782 : BitVec 32 := 1#32
  let v3635 : BitVec 32 := Scalar.muli v7 c1_i32_3782
  let v3636 : BitVec 32 := Scalar.addi c0_i32_3783 v3635
  v3636.toNat
def k0_dev220 (d0 : Dev nD) : Nat :=
  let c0_i32_3800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3799 : BitVec 32 := 1#32
  let v3647 : BitVec 32 := Scalar.muli v5 c1_i32_3799
  let v3648 : BitVec 32 := Scalar.addi c0_i32_3800 v3647
  v3648.toNat
def k0_dev221 (d0 : Dev nD) : Nat :=
  let c0_i32_3811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3810 : BitVec 32 := 1#32
  let v3661 : BitVec 32 := Scalar.muli v5 c1_i32_3810
  let v3662 : BitVec 32 := Scalar.addi c0_i32_3811 v3661
  v3662.toNat
def k0_dev222 (d0 : Dev nD) : Nat :=
  let c0_i32_3828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3827 : BitVec 32 := 1#32
  let v3673 : BitVec 32 := Scalar.muli v7 c1_i32_3827
  let v3674 : BitVec 32 := Scalar.addi c0_i32_3828 v3673
  v3674.toNat
def k0_dev223 (d0 : Dev nD) : Nat :=
  let c0_i32_3839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3838 : BitVec 32 := 1#32
  let v3687 : BitVec 32 := Scalar.muli v7 c1_i32_3838
  let v3688 : BitVec 32 := Scalar.addi c0_i32_3839 v3687
  v3688.toNat
def k0_dev224 (d0 : Dev nD) : Nat :=
  let c0_i32_3856 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3855 : BitVec 32 := 1#32
  let v3699 : BitVec 32 := Scalar.muli v5 c1_i32_3855
  let v3700 : BitVec 32 := Scalar.addi c0_i32_3856 v3699
  v3700.toNat
def k0_dev225 (d0 : Dev nD) : Nat :=
  let c0_i32_3867 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3866 : BitVec 32 := 1#32
  let v3713 : BitVec 32 := Scalar.muli v5 c1_i32_3866
  let v3714 : BitVec 32 := Scalar.addi c0_i32_3867 v3713
  v3714.toNat
def k0_dev226 (d0 : Dev nD) : Nat :=
  let c0_i32_3884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3883 : BitVec 32 := 1#32
  let v3725 : BitVec 32 := Scalar.muli v7 c1_i32_3883
  let v3726 : BitVec 32 := Scalar.addi c0_i32_3884 v3725
  v3726.toNat
def k0_dev227 (d0 : Dev nD) : Nat :=
  let c0_i32_3895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3894 : BitVec 32 := 1#32
  let v3739 : BitVec 32 := Scalar.muli v7 c1_i32_3894
  let v3740 : BitVec 32 := Scalar.addi c0_i32_3895 v3739
  v3740.toNat
def k0_dev228 (d0 : Dev nD) : Nat :=
  let c0_i32_3912 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3911 : BitVec 32 := 1#32
  let v3751 : BitVec 32 := Scalar.muli v5 c1_i32_3911
  let v3752 : BitVec 32 := Scalar.addi c0_i32_3912 v3751
  v3752.toNat
def k0_dev229 (d0 : Dev nD) : Nat :=
  let c0_i32_3923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3922 : BitVec 32 := 1#32
  let v3765 : BitVec 32 := Scalar.muli v5 c1_i32_3922
  let v3766 : BitVec 32 := Scalar.addi c0_i32_3923 v3765
  v3766.toNat
def k0_dev230 (d0 : Dev nD) : Nat :=
  let c0_i32_3940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3939 : BitVec 32 := 1#32
  let v3777 : BitVec 32 := Scalar.muli v7 c1_i32_3939
  let v3778 : BitVec 32 := Scalar.addi c0_i32_3940 v3777
  v3778.toNat
def k0_dev231 (d0 : Dev nD) : Nat :=
  let c0_i32_3951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3950 : BitVec 32 := 1#32
  let v3791 : BitVec 32 := Scalar.muli v7 c1_i32_3950
  let v3792 : BitVec 32 := Scalar.addi c0_i32_3951 v3791
  v3792.toNat
def k0_dev232 (d0 : Dev nD) : Nat :=
  let c0_i32_3968 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3967 : BitVec 32 := 1#32
  let v3803 : BitVec 32 := Scalar.muli v5 c1_i32_3967
  let v3804 : BitVec 32 := Scalar.addi c0_i32_3968 v3803
  v3804.toNat
def k0_dev233 (d0 : Dev nD) : Nat :=
  let c0_i32_3979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3978 : BitVec 32 := 1#32
  let v3817 : BitVec 32 := Scalar.muli v5 c1_i32_3978
  let v3818 : BitVec 32 := Scalar.addi c0_i32_3979 v3817
  v3818.toNat
def k0_dev234 (d0 : Dev nD) : Nat :=
  let c0_i32_3996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3995 : BitVec 32 := 1#32
  let v3829 : BitVec 32 := Scalar.muli v7 c1_i32_3995
  let v3830 : BitVec 32 := Scalar.addi c0_i32_3996 v3829
  v3830.toNat
def k0_dev235 (d0 : Dev nD) : Nat :=
  let c0_i32_4007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4006 : BitVec 32 := 1#32
  let v3843 : BitVec 32 := Scalar.muli v7 c1_i32_4006
  let v3844 : BitVec 32 := Scalar.addi c0_i32_4007 v3843
  v3844.toNat
def k0_dev236 (d0 : Dev nD) : Nat :=
  let c0_i32_4024 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4023 : BitVec 32 := 1#32
  let v3855 : BitVec 32 := Scalar.muli v5 c1_i32_4023
  let v3856 : BitVec 32 := Scalar.addi c0_i32_4024 v3855
  v3856.toNat
def k0_dev237 (d0 : Dev nD) : Nat :=
  let c0_i32_4049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4048 : BitVec 32 := 1#32
  let v3879 : BitVec 32 := Scalar.muli v7 c1_i32_4048
  let v3880 : BitVec 32 := Scalar.addi c0_i32_4049 v3879
  v3880.toNat
def k0_dev238 (d0 : Dev nD) : Nat :=
  let c0_i32_4074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4073 : BitVec 32 := 1#32
  let v3903 : BitVec 32 := Scalar.muli v5 c1_i32_4073
  let v3904 : BitVec 32 := Scalar.addi c0_i32_4074 v3903
  v3904.toNat
def k0_dev239 (d0 : Dev nD) : Nat :=
  let c0_i32_4099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4098 : BitVec 32 := 1#32
  let v3927 : BitVec 32 := Scalar.muli v7 c1_i32_4098
  let v3928 : BitVec 32 := Scalar.addi c0_i32_4099 v3927
  v3928.toNat
def k0_dev240 (d0 : Dev nD) : Nat :=
  let c0_i32_4124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4123 : BitVec 32 := 1#32
  let v3951 : BitVec 32 := Scalar.muli v5 c1_i32_4123
  let v3952 : BitVec 32 := Scalar.addi c0_i32_4124 v3951
  v3952.toNat
def k0_dev241 (d0 : Dev nD) : Nat :=
  let c0_i32_4149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_4148 : BitVec 32 := 1#32
  let v3975 : BitVec 32 := Scalar.muli v7 c1_i32_4148
  let v3976 : BitVec 32 := Scalar.addi c0_i32_4149 v3975
  v3976.toNat
def k0_dev242 (d0 : Dev nD) : Nat :=
  let c0_i32_4174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_4173 : BitVec 32 := 1#32
  let v3999 : BitVec 32 := Scalar.muli v5 c1_i32_4173
  let v4000 : BitVec 32 := Scalar.addi c0_i32_4174 v3999
  v4000.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Program.lean ====
/-
The kernel's body as a loop. The printed body is one straight line of 866 operations cut into parts; here it is written
as it was meant: a prologue, then 62 steps of two rings, then the last waits. `body_eq` says the two are one program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Tactic

@[expose] public section

noncomputable section

namespace Cert.RingProof

open Cert.KernelIdeal Cert.KernelIdeal.Gen
open Idealize.ShloMosaic Idealize.ShloMosaic.TcCoe Idealize.SL.Sem

variable {F : FTy → Type} [FloatOps F]

/-! ## Buffers, semaphores and views. A ring is a `Bool`: `false` sends to the right, `true` to the left. -/

/-- The staged block of `x`, -/
abbrev xM : Memref sig .tc .vmem S4096x128 .f32 := Memref.whole cc0_stg0_0
/-- that of `w`, -/
abbrev wM : Memref sig .tc .vmem S128x2048 .f32 := Memref.whole cc0_stg1_0
/-- and the output. -/
abbrev oM : Memref sig .tc .vmem S4096x2048 .f32 := Memref.whole cc0_stg2_0
/-- The buffer that ring `r` receives partial sums in: four slots. -/
abbrev commB (r : Bool) : Ref sig .tc := match r with | false => cc0_scratch0 | true => cc0_scratch1
/-- The same as a view. -/
def commM (r : Bool) : Memref sig .tc .vmem S4x128x1024 .f32 :=
  match r with | false => Memref.whole cc0_scratch0 | true => Memref.whole cc0_scratch1
/-- Ring `r`'s send semaphores, -/
def sendA (r : Bool) : DmaSems sig S4 := match r with | false => cc0_scratch2 | true => cc0_scratch4
/-- its receive semaphores, -/
def recvA (r : Bool) : DmaSems sig S4 := match r with | false => cc0_scratch3 | true => cc0_scratch5
/-- and its acknowledgement semaphore. -/
def ackS (r : Bool) : Sem sig := match r with | false => cc0_scratch6.sem | true => cc0_scratch7.sem
/-- The runtime's barrier semaphore. -/
abbrev barS : Sem sig := (SemArray.scalar (sig.barrier 0 rfl) : Sems sig S_).sem

/-- A slot lies within the buffer, -/
theorem slot_inb (s : ℕ) : ∀ a, (![s % 4, 0, 0] : Fin 3 → Nat) a + S1x128x1024.size a ≤ S4x128x1024.size a := by
  have h : ∀ k < 4, ∀ a, (![k, 0, 0] : Fin 3 → Nat) a + S1x128x1024.size a ≤ S4x128x1024.size a := by decide
  exact h _ (Nat.mod_lt _ (by decide))
/-- and its semaphore within the array. -/
theorem sem_inb (s : ℕ) : ∀ a, (![s % 4] : Fin 1 → Nat) a + S1.size a ≤ S4.size a := by
  have h : ∀ k < 4, ∀ a, (![k] : Fin 1 → Nat) a + S1.size a ≤ S4.size a := by decide
  exact h _ (Nat.mod_lt _ (by decide))

/-- The slot of step `s`, as a rectangle of the buffer and as a view of its own. -/
abbrev slotR (s : ℕ) : Rect S4x128x1024 := Rect.unit (s := S4x128x1024) ![s % 4, 0, 0] S1x128x1024.size (slot_inb s)
/-- The slot as a view of a chunk's shape. -/
def slotV (r : Bool) (s : ℕ) : Memref sig .tc .vmem S128x1024 .f32 :=
  ((commM r).slice (slotR s) (fun _ => rfl)).squeeze S128x1024 squeezes_S1x128x1024_S128x1024
/-- The semaphore of step `s` in an array of four. -/
def semAt (A : DmaSems sig S4) (s : ℕ) : DmaSem sig :=
  ((A.slice (Rect.unit (s := S4) ![s % 4] S1.size (sem_inb s))).squeeze S_ squeezes_S1_S_).sem

/-- A chunk offset within the output. -/
abbrev OffIn (off : Fin 2 → ℕ) : Prop := ∀ a, off a + S128x1024.size a ≤ S4096x2048.size a
/-- The chunk at an offset, as a rectangle -/
abbrev chunkR (off : Fin 2 → ℕ) (h : OffIn off) : Rect S4096x2048 := Rect.unit (s := S4096x2048) off S128x1024.size h
/-- and as a view. -/
abbrev chunkV (off : Fin 2 → ℕ) (h : OffIn off) : Memref sig .tc .vmem S128x1024 .f32 :=
  oM.slice (chunkR off h) (fun _ => rfl)

/-- The chunk's new value: what it held plus what arrived. -/
def accP (v : Vec F S128x1024 .f32) (u : Vec F S1x128x1024 .f32) : FVec F S128x1024 .f32 := k0_pay2 v u
/-- The larger of the chunk and zero. -/
def reluP (v : Vec F S128x1024 .f32) : FVec F S128x1024 .f32 := k0_pay69 v

/-! ## The steps, each followed by the program `k` -/

/-- A program of the device. -/
abbrev PG (F : FTy → Type) [FloatOps F] := Prog (TpuEff nD τ sig (Elt F) Λ₀ .tc) PUnit

/-- Where each step sends from and accumulates, and the devices the signals and copies name, in the printed order. -/
structure Names where
  snd : Bool → ℕ → Fin 2 → ℕ
  snd_in : ∀ r s, OffIn (snd r s)
  rcv : Bool → ℕ → Fin 2 → ℕ
  rcv_in : ∀ r s, OffIn (rcv r s)
  dev : ℕ → Dev nD

variable (N : Names)

/-- The chunk that step `s` sends. -/
abbrev Names.sndV (r : Bool) (s : ℕ) : Memref sig .tc .vmem S128x1024 .f32 := chunkV (N.snd r s) (N.snd_in r s)
/-- Where step `s` lands at its receiver: a slot, or the chunk at the sender's offset. -/
def Names.dstV (r : Bool) (s : ℕ) : Memref sig .tc .vmem S128x1024 .f32 := if s < 31 then slotV r s else N.sndV r s

/-- A chunk's view is made of whole words. -/
theorem wx (v : Memref sig .tc .vmem S128x1024 .f32) : v.view.WordExact := View.wordExact_bits rfl

/-- Load a chunk. -/
def loadC (off : Fin 2 → ℕ) (h : OffIn off) (k : Vec F S128x1024 .f32 → PG F) : PG F :=
  .op (.load oM (chunkR off h).toLoadRect (View.loadsAt_vmem h_S128x1024)) k
/-- Store over a chunk. -/
def storeC (off : Fin 2 → ℕ) (h : OffIn off) (v : FVec F S128x1024 .f32) (k : PG F) : PG F :=
  .op (.store oM (chunkR off h) v Finset.univ (View.stores_vmem_bits_univ h_S128x1024 rfl) (.inl rfl)) fun _ => k
/-- Load step `s`'s slot. -/
def loadS (r : Bool) (s : ℕ) (k : Vec F S1x128x1024 .f32 → PG F) : PG F :=
  .op (.load (commM r) (slotR s).toLoadRect (View.loadsAt_vmem h_S1x128x1024)) k

/-- Wait for step `s`'s copy to arrive. -/
def waitRecv (r : Bool) (s : ℕ) (k : PG F) : PG F :=
  .op (.waitDma2 (semAt (recvA r) s) (N.sndV r s) (N.dstV r s) (wx _) (wx _)) fun _ => k
/-- Wait for step `s`'s copy to have left. -/
def waitSend (r : Bool) (s : ℕ) (k : PG F) : PG F :=
  .op (.waitDma2 (semAt (sendA r) s) (N.dstV r s) (N.sndV r s) (wx _) (wx _)) fun _ => k
/-- Add step `s`'s slot to a chunk. -/
def accum (off : Fin 2 → ℕ) (h : OffIn off) (r : Bool) (s : ℕ) (k : PG F) : PG F :=
  loadC off h fun v => loadS r s fun u => loadC off h fun _ => storeC off h (accP v u) k
/-- Cut a chunk below at zero. -/
def relu (off : Fin 2 → ℕ) (h : OffIn off) (k : PG F) : PG F :=
  loadC off h fun v => loadC off h fun _ => storeC off h (reluP v) k
/-- Acknowledge to the sender. -/
def sigAck (d : Dev nD) (r : Bool) (k : PG F) : PG F :=
  .op (.semSignal (d, .tc) (ackS r) ((1 : ℕ) : ℤ)) fun _ => k
/-- Wait for an acknowledgement. -/
def waitAck (r : Bool) (k : PG F) : PG F :=
  .op (.semWait (ackS r) ((1 : ℕ) : ℤ)) fun _ => k
/-- Start step `s`'s copy to device `d`. -/
def send (d : Dev nD) (r : Bool) (s : ℕ) (k : PG F) : PG F :=
  .op (.enqueueDma (N.sndV r s) (.remote (Dev.tc d) (N.dstV r s) (.dma (semAt (sendA r) s))) (.dma (semAt (recvA r) s))
    (wx _) (wx _) ⟨⟨rfl, Or.inl rfl⟩, trivial⟩) fun _ => k

/-- Which printed device the acknowledgement of step `s` names, and which the send of step `s`. -/
def ackIx (r : Bool) (s : ℕ) : ℕ := 5 + 4 * s + 2 * r.toNat
/-- Which of the printed devices step `s`'s copy names. -/
def sndIx (r : Bool) : ℕ → ℕ
  | 0 => 3 + r.toNat
  | s + 1 => if s < 58 then 6 + 4 * s + 2 * r.toNat else 237 + 2 * (s - 58) + r.toNat

/-- The step's first half: take what arrived, and acknowledge it. -/
def stepRecv (r : Bool) (s : ℕ) (k : PG F) : PG F :=
  waitRecv N r s <|
    (fun k => if s < 31 then accum (N.rcv r s) (N.rcv_in r s) r s
      ((fun k => if s = 30 then relu (N.rcv r s) (N.rcv_in r s) k else k) k) else k)
    (if s < 58 then sigAck (N.dev (ackIx r s)) r k else k)
/-- Its second half: send the next chunk, once its destination is free and its semaphore idle. -/
def stepSend (r : Bool) (s : ℕ) (k : PG F) : PG F :=
  if s < 61 then
    (fun k => if 3 ≤ s then waitAck r (waitSend N r (s - 3) k) else k)
      (send N (N.dev (sndIx r (s + 1))) r (s + 1) k)
  else k

/-- The last `n` of the 62 steps. -/
def steps : ℕ → PG F → PG F
  | 0, k => k
  | n + 1, k => stepRecv N false (61 - n) (stepSend N false (61 - n)
      (stepRecv N true (61 - n) (stepSend N true (61 - n) (steps n k))))

/-- The waits for the last four sends. -/
def lastWaits (r : Bool) (k : PG F) : PG F :=
  waitSend N r 60 (waitSend N r 61 (waitSend N r 58 (waitSend N r 59 k)))

/-- The whole body, after the device has read its own name. -/
def ringBody : PG F :=
  .op (.semSignal (N.dev 1, .tc) barS ((1 : ℕ) : ℤ)) fun _ =>
  .op (.semSignal (N.dev 2, .tc) barS ((1 : ℕ) : ℤ)) fun _ =>
  .op (.semWait barS ((2 : ℕ) : ℤ)) fun _ =>
  .op (.load xM (Rect.unit (s := S4096x128) ![0, 0] S4096x128.size inb_S4096x128_S4096x128_0_0).toLoadRect (View.loadsAt_vmem h_S4096x128)) fun x =>
  .op (.load wM (Rect.unit (s := S128x2048) ![0, 0] S128x2048.size inb_S128x2048_S128x2048_0_0).toLoadRect (View.loadsAt_vmem h_S128x2048)) fun w =>
  .op (.load oM (Rect.unit (s := S4096x2048) ![0, 0] S4096x2048.size inb_S4096x2048_S4096x2048_0_0).toLoadRect (View.loadsAt_vmem h_S4096x2048)) fun _ =>
  .op (.store oM (Rect.unit (s := S4096x2048) ![0, 0] S4096x2048.size inb_S4096x2048_S4096x2048_0_0) (k0_pay1 x w) Finset.univ
    (View.stores_vmem_bits_univ h_S4096x2048 rfl) (.inl rfl)) fun _ =>
  send N (N.dev (sndIx false 0)) false 0 (send N (N.dev (sndIx true 0)) true 0
    (steps N 62 (lastWaits N false (lastWaits N true (.ret ⟨⟩)))))

/-! ## The printed names -/

/-- The devices as the printed body computes them, in its order. -/
def devTable (c : Dev nD) : List (Dev nD) :=
  [c,
   ⟨k0_dev1 c, k0_dev1_lt c⟩, ⟨k0_dev2 c, k0_dev2_lt c⟩, ⟨k0_dev3 c, k0_dev3_lt c⟩, ⟨k0_dev4 c, k0_dev4_lt c⟩,
   ⟨k0_dev5 c, k0_dev5_lt c⟩, ⟨k0_dev6 c, k0_dev6_lt c⟩, ⟨k0_dev7 c, k0_dev7_lt c⟩, ⟨k0_dev8 c, k0_dev8_lt c⟩,
   ⟨k0_dev9 c, k0_dev9_lt c⟩, ⟨k0_dev10 c, k0_dev10_lt c⟩, ⟨k0_dev11 c, k0_dev11_lt c⟩, ⟨k0_dev12 c, k0_dev12_lt c⟩,
   ⟨k0_dev13 c, k0_dev13_lt c⟩, ⟨k0_dev14 c, k0_dev14_lt c⟩, ⟨k0_dev15 c, k0_dev15_lt c⟩, ⟨k0_dev16 c, k0_dev16_lt c⟩,
   ⟨k0_dev17 c, k0_dev17_lt c⟩, ⟨k0_dev18 c, k0_dev18_lt c⟩, ⟨k0_dev19 c, k0_dev19_lt c⟩, ⟨k0_dev20 c, k0_dev20_lt c⟩,
   ⟨k0_dev21 c, k0_dev21_lt c⟩, ⟨k0_dev22 c, k0_dev22_lt c⟩, ⟨k0_dev23 c, k0_dev23_lt c⟩, ⟨k0_dev24 c, k0_dev24_lt c⟩,
   ⟨k0_dev25 c, k0_dev25_lt c⟩, ⟨k0_dev26 c, k0_dev26_lt c⟩, ⟨k0_dev27 c, k0_dev27_lt c⟩, ⟨k0_dev28 c, k0_dev28_lt c⟩,
   ⟨k0_dev29 c, k0_dev29_lt c⟩, ⟨k0_dev30 c, k0_dev30_lt c⟩, ⟨k0_dev31 c, k0_dev31_lt c⟩, ⟨k0_dev32 c, k0_dev32_lt c⟩,
   ⟨k0_dev33 c, k0_dev33_lt c⟩, ⟨k0_dev34 c, k0_dev34_lt c⟩, ⟨k0_dev35 c, k0_dev35_lt c⟩, ⟨k0_dev36 c, k0_dev36_lt c⟩,
   ⟨k0_dev37 c, k0_dev37_lt c⟩, ⟨k0_dev38 c, k0_dev38_lt c⟩, ⟨k0_dev39 c, k0_dev39_lt c⟩, ⟨k0_dev40 c, k0_dev40_lt c⟩,
   ⟨k0_dev41 c, k0_dev41_lt c⟩, ⟨k0_dev42 c, k0_dev42_lt c⟩, ⟨k0_dev43 c, k0_dev43_lt c⟩, ⟨k0_dev44 c, k0_dev44_lt c⟩,
   ⟨k0_dev45 c, k0_dev45_lt c⟩, ⟨k0_dev46 c, k0_dev46_lt c⟩, ⟨k0_dev47 c, k0_dev47_lt c⟩, ⟨k0_dev48 c, k0_dev48_lt c⟩,
   ⟨k0_dev49 c, k0_dev49_lt c⟩, ⟨k0_dev50 c, k0_dev50_lt c⟩, ⟨k0_dev51 c, k0_dev51_lt c⟩, ⟨k0_dev52 c, k0_dev52_lt c⟩,
   ⟨k0_dev53 c, k0_dev53_lt c⟩, ⟨k0_dev54 c, k0_dev54_lt c⟩, ⟨k0_dev55 c, k0_dev55_lt c⟩, ⟨k0_dev56 c, k0_dev56_lt c⟩,
   ⟨k0_dev57 c, k0_dev57_lt c⟩, ⟨k0_dev58 c, k0_dev58_lt c⟩, ⟨k0_dev59 c, k0_dev59_lt c⟩, ⟨k0_dev60 c, k0_dev60_lt c⟩,
   ⟨k0_dev61 c, k0_dev61_lt c⟩, ⟨k0_dev62 c, k0_dev62_lt c⟩, ⟨k0_dev63 c, k0_dev63_lt c⟩, ⟨k0_dev64 c, k0_dev64_lt c⟩,
   ⟨k0_dev65 c, k0_dev65_lt c⟩, ⟨k0_dev66 c, k0_dev66_lt c⟩, ⟨k0_dev67 c, k0_dev67_lt c⟩, ⟨k0_dev68 c, k0_dev68_lt c⟩,
   ⟨k0_dev69 c, k0_dev69_lt c⟩, ⟨k0_dev70 c, k0_dev70_lt c⟩, ⟨k0_dev71 c, k0_dev71_lt c⟩, ⟨k0_dev72 c, k0_dev72_lt c⟩,
   ⟨k0_dev73 c, k0_dev73_lt c⟩, ⟨k0_dev74 c, k0_dev74_lt c⟩, ⟨k0_dev75 c, k0_dev75_lt c⟩, ⟨k0_dev76 c, k0_dev76_lt c⟩,
   ⟨k0_dev77 c, k0_dev77_lt c⟩, ⟨k0_dev78 c, k0_dev78_lt c⟩, ⟨k0_dev79 c, k0_dev79_lt c⟩, ⟨k0_dev80 c, k0_dev80_lt c⟩,
   ⟨k0_dev81 c, k0_dev81_lt c⟩, ⟨k0_dev82 c, k0_dev82_lt c⟩, ⟨k0_dev83 c, k0_dev83_lt c⟩, ⟨k0_dev84 c, k0_dev84_lt c⟩,
   ⟨k0_dev85 c, k0_dev85_lt c⟩, ⟨k0_dev86 c, k0_dev86_lt c⟩, ⟨k0_dev87 c, k0_dev87_lt c⟩, ⟨k0_dev88 c, k0_dev88_lt c⟩,
   ⟨k0_dev89 c, k0_dev89_lt c⟩, ⟨k0_dev90 c, k0_dev90_lt c⟩, ⟨k0_dev91 c, k0_dev91_lt c⟩, ⟨k0_dev92 c, k0_dev92_lt c⟩,
   ⟨k0_dev93 c, k0_dev93_lt c⟩, ⟨k0_dev94 c, k0_dev94_lt c⟩, ⟨k0_dev95 c, k0_dev95_lt c⟩, ⟨k0_dev96 c, k0_dev96_lt c⟩,
   ⟨k0_dev97 c, k0_dev97_lt c⟩, ⟨k0_dev98 c, k0_dev98_lt c⟩, ⟨k0_dev99 c, k0_dev99_lt c⟩, ⟨k0_dev100 c, k0_dev100_lt
   c⟩, ⟨k0_dev101 c, k0_dev101_lt c⟩, ⟨k0_dev102 c, k0_dev102_lt c⟩, ⟨k0_dev103 c, k0_dev103_lt c⟩, ⟨k0_dev104 c,
   k0_dev104_lt c⟩, ⟨k0_dev105 c, k0_dev105_lt c⟩, ⟨k0_dev106 c, k0_dev106_lt c⟩, ⟨k0_dev107 c, k0_dev107_lt c⟩,
   ⟨k0_dev108 c, k0_dev108_lt c⟩, ⟨k0_dev109 c, k0_dev109_lt c⟩, ⟨k0_dev110 c, k0_dev110_lt c⟩, ⟨k0_dev111 c,
   k0_dev111_lt c⟩, ⟨k0_dev112 c, k0_dev112_lt c⟩, ⟨k0_dev113 c, k0_dev113_lt c⟩, ⟨k0_dev114 c, k0_dev114_lt c⟩,
   ⟨k0_dev115 c, k0_dev115_lt c⟩, ⟨k0_dev116 c, k0_dev116_lt c⟩, ⟨k0_dev117 c, k0_dev117_lt c⟩, ⟨k0_dev118 c,
   k0_dev118_lt c⟩, ⟨k0_dev119 c, k0_dev119_lt c⟩, ⟨k0_dev120 c, k0_dev120_lt c⟩, ⟨k0_dev121 c, k0_dev121_lt c⟩,
   ⟨k0_dev122 c, k0_dev122_lt c⟩, ⟨k0_dev123 c, k0_dev123_lt c⟩, ⟨k0_dev124 c, k0_dev124_lt c⟩, ⟨k0_dev125 c,
   k0_dev125_lt c⟩, ⟨k0_dev126 c, k0_dev126_lt c⟩, ⟨k0_dev127 c, k0_dev127_lt c⟩, ⟨k0_dev128 c, k0_dev128_lt c⟩,
   ⟨k0_dev129 c, k0_dev129_lt c⟩, ⟨k0_dev130 c, k0_dev130_lt c⟩, ⟨k0_dev131 c, k0_dev131_lt c⟩, ⟨k0_dev132 c,
   k0_dev132_lt c⟩, ⟨k0_dev133 c, k0_dev133_lt c⟩, ⟨k0_dev134 c, k0_dev134_lt c⟩, ⟨k0_dev135 c, k0_dev135_lt c⟩,
   ⟨k0_dev136 c, k0_dev136_lt c⟩, ⟨k0_dev137 c, k0_dev137_lt c⟩, ⟨k0_dev138 c, k0_dev138_lt c⟩, ⟨k0_dev139 c,
   k0_dev139_lt c⟩, ⟨k0_dev140 c, k0_dev140_lt c⟩, ⟨k0_dev141 c, k0_dev141_lt c⟩, ⟨k0_dev142 c, k0_dev142_lt c⟩,
   ⟨k0_dev143 c, k0_dev143_lt c⟩, ⟨k0_dev144 c, k0_dev144_lt c⟩, ⟨k0_dev145 c, k0_dev145_lt c⟩, ⟨k0_dev146 c,
   k0_dev146_lt c⟩, ⟨k0_dev147 c, k0_dev147_lt c⟩, ⟨k0_dev148 c, k0_dev148_lt c⟩, ⟨k0_dev149 c, k0_dev149_lt c⟩,
   ⟨k0_dev150 c, k0_dev150_lt c⟩, ⟨k0_dev151 c, k0_dev151_lt c⟩, ⟨k0_dev152 c, k0_dev152_lt c⟩, ⟨k0_dev153 c,
   k0_dev153_lt c⟩, ⟨k0_dev154 c, k0_dev154_lt c⟩, ⟨k0_dev155 c, k0_dev155_lt c⟩, ⟨k0_dev156 c, k0_dev156_lt c⟩,
   ⟨k0_dev157 c, k0_dev157_lt c⟩, ⟨k0_dev158 c, k0_dev158_lt c⟩, ⟨k0_dev159 c, k0_dev159_lt c⟩, ⟨k0_dev160 c,
   k0_dev160_lt c⟩, ⟨k0_dev161 c, k0_dev161_lt c⟩, ⟨k0_dev162 c, k0_dev162_lt c⟩, ⟨k0_dev163 c, k0_dev163_lt c⟩,
   ⟨k0_dev164 c, k0_dev164_lt c⟩, ⟨k0_dev165 c, k0_dev165_lt c⟩, ⟨k0_dev166 c, k0_dev166_lt c⟩, ⟨k0_dev167 c,
   k0_dev167_lt c⟩, ⟨k0_dev168 c, k0_dev168_lt c⟩, ⟨k0_dev169 c, k0_dev169_lt c⟩, ⟨k0_dev170 c, k0_dev170_lt c⟩,
   ⟨k0_dev171 c, k0_dev171_lt c⟩, ⟨k0_dev172 c, k0_dev172_lt c⟩, ⟨k0_dev173 c, k0_dev173_lt c⟩, ⟨k0_dev174 c,
   k0_dev174_lt c⟩, ⟨k0_dev175 c, k0_dev175_lt c⟩, ⟨k0_dev176 c, k0_dev176_lt c⟩, ⟨k0_dev177 c, k0_dev177_lt c⟩,
   ⟨k0_dev178 c, k0_dev178_lt c⟩, ⟨k0_dev179 c, k0_dev179_lt c⟩, ⟨k0_dev180 c, k0_dev180_lt c⟩, ⟨k0_dev181 c,
   k0_dev181_lt c⟩, ⟨k0_dev182 c, k0_dev182_lt c⟩, ⟨k0_dev183 c, k0_dev183_lt c⟩, ⟨k0_dev184 c, k0_dev184_lt c⟩,
   ⟨k0_dev185 c, k0_dev185_lt c⟩, ⟨k0_dev186 c, k0_dev186_lt c⟩, ⟨k0_dev187 c, k0_dev187_lt c⟩, ⟨k0_dev188 c,
   k0_dev188_lt c⟩, ⟨k0_dev189 c, k0_dev189_lt c⟩, ⟨k0_dev190 c, k0_dev190_lt c⟩, ⟨k0_dev191 c, k0_dev191_lt c⟩,
   ⟨k0_dev192 c, k0_dev192_lt c⟩, ⟨k0_dev193 c, k0_dev193_lt c⟩, ⟨k0_dev194 c, k0_dev194_lt c⟩, ⟨k0_dev195 c,
   k0_dev195_lt c⟩, ⟨k0_dev196 c, k0_dev196_lt c⟩, ⟨k0_dev197 c, k0_dev197_lt c⟩, ⟨k0_dev198 c, k0_dev198_lt c⟩,
   ⟨k0_dev199 c, k0_dev199_lt c⟩, ⟨k0_dev200 c, k0_dev200_lt c⟩, ⟨k0_dev201 c, k0_dev201_lt c⟩, ⟨k0_dev202 c,
   k0_dev202_lt c⟩, ⟨k0_dev203 c, k0_dev203_lt c⟩, ⟨k0_dev204 c, k0_dev204_lt c⟩, ⟨k0_dev205 c, k0_dev205_lt c⟩,
   ⟨k0_dev206 c, k0_dev206_lt c⟩, ⟨k0_dev207 c, k0_dev207_lt c⟩, ⟨k0_dev208 c, k0_dev208_lt c⟩, ⟨k0_dev209 c,
   k0_dev209_lt c⟩, ⟨k0_dev210 c, k0_dev210_lt c⟩, ⟨k0_dev211 c, k0_dev211_lt c⟩, ⟨k0_dev212 c, k0_dev212_lt c⟩,
   ⟨k0_dev213 c, k0_dev213_lt c⟩, ⟨k0_dev214 c, k0_dev214_lt c⟩, ⟨k0_dev215 c, k0_dev215_lt c⟩, ⟨k0_dev216 c,
   k0_dev216_lt c⟩, ⟨k0_dev217 c, k0_dev217_lt c⟩, ⟨k0_dev218 c, k0_dev218_lt c⟩, ⟨k0_dev219 c, k0_dev219_lt c⟩,
   ⟨k0_dev220 c, k0_dev220_lt c⟩, ⟨k0_dev221 c, k0_dev221_lt c⟩, ⟨k0_dev222 c, k0_dev222_lt c⟩, ⟨k0_dev223 c,
   k0_dev223_lt c⟩, ⟨k0_dev224 c, k0_dev224_lt c⟩, ⟨k0_dev225 c, k0_dev225_lt c⟩, ⟨k0_dev226 c, k0_dev226_lt c⟩,
   ⟨k0_dev227 c, k0_dev227_lt c⟩, ⟨k0_dev228 c, k0_dev228_lt c⟩, ⟨k0_dev229 c, k0_dev229_lt c⟩, ⟨k0_dev230 c,
   k0_dev230_lt c⟩, ⟨k0_dev231 c, k0_dev231_lt c⟩, ⟨k0_dev232 c, k0_dev232_lt c⟩, ⟨k0_dev233 c, k0_dev233_lt c⟩,
   ⟨k0_dev234 c, k0_dev234_lt c⟩, ⟨k0_dev235 c, k0_dev235_lt c⟩, ⟨k0_dev236 c, k0_dev236_lt c⟩, ⟨k0_dev237 c,
   k0_dev237_lt c⟩, ⟨k0_dev238 c, k0_dev238_lt c⟩, ⟨k0_dev239 c, k0_dev239_lt c⟩, ⟨k0_dev240 c, k0_dev240_lt c⟩,
   ⟨k0_dev241 c, k0_dev241_lt c⟩, ⟨k0_dev242 c, k0_dev242_lt c⟩
  ]

/-- The printed offsets and devices, on device `c`. -/
def printed (c : Dev nD) : Names where
  snd r s := if s < 31 then
      (match r with | false => k0_off1 c (BitVec.ofNat 32 (s % 31)) | true => k0_off2 c (BitVec.ofNat 32 (s % 31)))
    else (match r with | false => k0_off5 c (BitVec.ofNat 32 ((s - 31) % 31)) | true => k0_off6 c (BitVec.ofNat 32 ((s - 31) % 31)))
  snd_in r s := by
    have h : ∀ n, n % 31 < 31 := fun n => Nat.mod_lt _ (by decide)
    split
    · cases r
      · exact k0_off1_inb c ⟨_, h s⟩
      · exact k0_off2_inb c ⟨_, h s⟩
    · cases r
      · exact k0_off5_inb c ⟨_, h (s - 31)⟩
      · exact k0_off6_inb c ⟨_, h (s - 31)⟩
  rcv r s := match r with | false => k0_off3 c (BitVec.ofNat 32 (s % 31)) | true => k0_off4 c (BitVec.ofNat 32 (s % 31))
  rcv_in r s := by
    have h : s % 31 < 31 := Nat.mod_lt _ (by decide)
    cases r
    · exact k0_off3_inb c ⟨_, h⟩
    · exact k0_off4_inb c ⟨_, h⟩
  dev n := (devTable c).getD n c

set_option maxRecDepth 100000 in
/-- The printed body is the loop, at the printed names. -/
theorem body_eq : cc0_body (F := F) xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7
    = .op .deviceId fun c => ringBody (printed c) := by
  sl_kernel_rfl

end Cert.RingProof

end
-- ==== Proof.Geometry.lean ====
/-
The ring: neighbours, the chunk each step works on, and the printed names of both in closed form. Chunk `ck r c p` is
the chunk at relative place `p` of ring `r` on device `c`: step `p` sends it.
-/
module

public import proofs.«01_k».proof.Proof.Program
public import Idealize.ShloMosaic.Lib.Pipeline.Value

@[expose] public section

noncomputable section

namespace Cert.RingProof

open Cert.KernelIdeal Cert.KernelIdeal.Gen
open Idealize.ShloMosaic Idealize.ShloMosaic.TcCoe Idealize.SL.Sem

variable {F : FTy → Type} [FloatOps F]

/-! ## Neighbours and chunks -/

set_option backward.proofsInPublic true in
/-- The device that ring `r` sends to. -/
def nx (r : Bool) (c : Dev nD) : Dev nD :=
  ⟨(c.val + (match r with | false => 1 | true => 31)) % 32, Nat.mod_lt _ (by decide)⟩
/-- The device that ring `r` receives from. -/
def pr (r : Bool) (c : Dev nD) : Dev nD := nx (!r) c
set_option backward.proofsInPublic true in
/-- The chunk at relative place `p`. -/
def ck (r : Bool) (c : Dev nD) (p : ℕ) : Fin 32 :=
  ⟨(c.val + (match r with | false => 32 - p % 32 | true => p % 32)) % 32, Nat.mod_lt _ (by decide)⟩

/-- The two neighbours are inverse to each other, -/
theorem nx_pr (r : Bool) (c : Dev nD) : nx r (pr r c) = c := by
  have := c.isLt; cases r <;> refine Fin.ext ?_ <;> simp only [nx, pr, Bool.not_false, Bool.not_true] <;> simp only [nD] at this <;> omega
/-- both ways. -/
theorem pr_nx (r : Bool) (c : Dev nD) : pr r (nx r c) = c := by
  have := c.isLt; cases r <;> refine Fin.ext ?_ <;> simp only [nx, pr, Bool.not_false, Bool.not_true] <;> simp only [nD] at this <;> omega
/-- Ring `r` as a permutation of the devices. -/
def ring (r : Bool) : Dev nD ≃ Dev nD := ⟨nx r, pr r, pr_nx r, nx_pr r⟩

/-- What a device sends at place `p` its receiver knows at place `p + 1`. -/
theorem ck_nx (r : Bool) (c : Dev nD) (p : ℕ) : ck r (nx r c) (p + 1) = ck r c p := by
  have := c.isLt; cases r <;> refine Fin.ext ?_ <;> simp only [nx, ck] <;> simp only [nD] at this <;> omega
/-- The places go round after 32, -/
theorem ck_add (r : Bool) (c : Dev nD) (p : ℕ) : ck r c (p + 32) = ck r c p := by
  cases r <;> refine Fin.ext ?_ <;> simp only [ck, Nat.add_mod_right]
/-- and within a round every place is another chunk. -/
theorem ck_inj (r : Bool) (c : Dev nD) {p q : ℕ} (h : ck r c p = ck r c q) : p % 32 = q % 32 := by
  have := c.isLt; have := congrArg Fin.val h; cases r <;> simp only [ck] at this <;> simp only [nD] at * <;> omega

/-- The offset of chunk `k`: rows by `k`, the left half for ring `false` and the right half for ring `true`. -/
def off (r : Bool) (k : Fin 32) : Fin 2 → ℕ := match r with | false => ![128 * k.val, 0] | true => ![128 * k.val, 1024]
/-- Every chunk lies within the output. -/
theorem off_in (r : Bool) (k : Fin 32) : OffIn (off r k) := by revert r k; decide
/-- Chunk `k` of ring `r`'s half of the output. -/
abbrev chV (r : Bool) (k : Fin 32) : Memref sig .tc .vmem S128x1024 .f32 := chunkV (off r k) (off_in r k)

/-- Where step `s` of ring `r` lands at receiver `c`: a slot, or the output's chunk. -/
def dstV (r : Bool) (c : Dev nD) (s : ℕ) : Memref sig .tc .vmem S128x1024 .f32 :=
  if s < 31 then slotV r s else chV r (ck r c (s + 1))

/-! ## The printed names in closed form -/

/-- Equal offsets give equal chunks. -/
theorem chunkV_congr {o o' : Fin 2 → ℕ} (e : o = o') (h : OffIn o) (h' : OffIn o') : chunkV o h = chunkV o' h' := by subst e; rfl

/-- Step `s` sends the chunk at place `s`, -/
theorem snd_eq (c : Dev nD) (r : Bool) (s : ℕ) (hs : s < 62) : (printed c).snd r s = off r (ck r c s) := by
  have hc := c.isLt
  by_cases h : s < 31
  · have hm : s % 31 = s := Nat.mod_eq_of_lt h
    cases r <;> simp only [printed, off, ck, if_pos h, hm]
    · rw [k0_off1_eq c ⟨s, h⟩]; congr 2; simp only [nD] at hc; dsimp only; omega
    · rw [k0_off2_eq c ⟨s, h⟩]; congr 2; simp only [nD] at hc; dsimp only; omega
  · have h' : s - 31 < 31 := by omega
    have hm : (s - 31) % 31 = s - 31 := Nat.mod_eq_of_lt h'
    cases r <;> simp only [printed, off, ck, if_neg h, hm]
    · rw [k0_off5_eq c ⟨s - 31, h'⟩]; congr 2; simp only [nD] at hc; dsimp only; omega
    · rw [k0_off6_eq c ⟨s - 31, h'⟩]; congr 2; simp only [nD] at hc; dsimp only; omega

/-- and adds to the one at place `s + 1`. -/
theorem rcv_eq (c : Dev nD) (r : Bool) (s : ℕ) (hs : s < 31) : (printed c).rcv r s = off r (ck r c (s + 1)) := by
  have hc := c.isLt
  have hm : s % 31 = s := Nat.mod_eq_of_lt hs
  cases r <;> simp only [printed, off, ck, hm]
  · rw [k0_off3_eq c ⟨s, hs⟩]; congr 2; simp only [nD] at hc; dsimp only; omega
  · rw [k0_off4_eq c ⟨s, hs⟩]; congr 2; simp only [nD] at hc; dsimp only; omega

/-- The chunk sent, as a view, -/
theorem sndV_eq (c : Dev nD) (r : Bool) (s : ℕ) (hs : s < 62) : (printed c).sndV r s = chV r (ck r c s) :=
  chunkV_congr (snd_eq c r s hs) _ _
/-- and where it lands on the receiver. -/
theorem dst_eq (c : Dev nD) (r : Bool) (s : ℕ) (hs : s < 62) : (printed c).dstV r s = dstV r (nx r c) s := by
  unfold Names.dstV dstV; rw [sndV_eq c r s hs, ck_nx]

/-! The devices the printed body names: the first two signals, the acknowledgements, the copies. -/

/-- The two barrier signals go to the two neighbours, -/
theorem dev_bar : ∀ c : Dev nD, (printed c).dev 1 = pr false c ∧ (printed c).dev 2 = pr true c := by decide +kernel
/-- the acknowledgements to the device before, -/
theorem dev_ack : ∀ (c : Dev nD) (r : Bool), ∀ s < 58, (printed c).dev (ackIx r s) = pr r c := by decide +kernel
/-- and the copies to the device after. -/
theorem dev_snd : ∀ (c : Dev nD) (r : Bool), ∀ s < 62, (printed c).dev (sndIx r s) = nx r c := by decide +kernel

/-! ## Semaphores -/

/-- Steps four apart share their semaphores, -/
theorem semAt_congr (A : DmaSems sig S4) {s s' : ℕ} (h : s % 4 = s' % 4) : semAt A s = semAt A s' := by
  unfold semAt
  have e : ∀ (o o' : Fin 1 → ℕ) (i : ∀ a, o a + S1.size a ≤ S4.size a) (i' : ∀ a, o' a + S1.size a ≤ S4.size a), o = o' →
      ((A.slice (Rect.unit (s := S4) o S1.size i)).squeeze S_ squeezes_S1_S_).sem
        = ((A.slice (Rect.unit (s := S4) o' S1.size i')).squeeze S_ squeezes_S1_S_).sem := by
    intro o o' i i' h; subst h; rfl
  exact e _ _ _ _ (by rw [h])
/-- and their slots. -/
theorem slotV_congr (r : Bool) {s s' : ℕ} (h : s % 4 = s' % 4) : slotV r s = slotV r s' := by
  unfold slotV slotR
  have e : ∀ (o o' : Fin 3 → ℕ) (i : ∀ a, o a + S1x128x1024.size a ≤ S4x128x1024.size a)
      (i' : ∀ a, o' a + S1x128x1024.size a ≤ S4x128x1024.size a), o = o' →
      ((commM r).slice (Rect.unit (s := S4x128x1024) o S1x128x1024.size i) (fun _ => rfl)).squeeze S128x1024 squeezes_S1x128x1024_S128x1024
        = ((commM r).slice (Rect.unit (s := S4x128x1024) o' S1x128x1024.size i') (fun _ => rfl)).squeeze S128x1024 squeezes_S1x128x1024_S128x1024 := by
    intro o o' i i' h; subst h; rfl
  exact e _ _ _ _ (by rw [h])

/-- What a semaphore is for. -/
inductive Use where
  | bar | ack (r : Bool) | send (r : Bool) (k : ℕ) | recv (r : Bool) (k : ℕ) | other
  deriving DecidableEq

/-- Each semaphore's use. -/
def useOf : SemLoc sig → Use
  | .reg i => if i = barS then .bar else .ack (decide (i = ackS true))
  | .dma i => if i.val < 3 then .other else
      (if (i.val - 3) % 8 < 4 then Use.send else Use.recv) (decide (11 ≤ i.val)) ((i.val - 3) % 4)

/-- A number is one of four up to multiples of four. -/
theorem mod4_cases (s : ℕ) : s % 4 = 0 % 4 ∨ s % 4 = 1 % 4 ∨ s % 4 = 2 % 4 ∨ s % 4 = 3 % 4 := by omega

/-- The barrier semaphore's use, -/
theorem use_bar : useOf (.reg barS) = .bar := by decide
/-- the acknowledgements', -/
theorem use_ack (r : Bool) : useOf (.reg (ackS r)) = .ack r := by revert r; decide
/-- the send semaphores', -/
theorem use_send (r : Bool) (s : ℕ) : useOf (.dma (semAt (sendA r) s)) = .send r (s % 4) := by
  rcases mod4_cases s with h | h | h | h <;> rw [semAt_congr _ h, h] <;> revert r <;> decide +kernel
/-- and the receive semaphores'. -/
theorem use_recv (r : Bool) (s : ℕ) : useOf (.dma (semAt (recvA r) s)) = .recv r (s % 4) := by
  rcases mod4_cases s with h | h | h | h <;> rw [semAt_congr _ h, h] <;> revert r <;> decide +kernel

/-! ## What a copy adds to its semaphores -/

/-- The credit of one chunk. -/
@[irreducible] def NN : ℕ := (chV false 0).view.dmaCredit
theorem NN_pos : 0 < NN := by unfold NN; exact View.dmaCredit_pos _ (by decide)
/-- A copy from a chunk, into a slot or into a destination is one chunk's credit. -/
theorem chV_credit (r : Bool) (k : Fin 32) : (chV r k).view.dmaCredit = NN := by unfold NN; rfl
/-- The same for a slot, -/
theorem slotV_credit (r : Bool) (s : ℕ) : (slotV r s).view.dmaCredit = NN := by unfold NN; cases r <;> rfl
/-- and for a destination. -/
theorem dstV_credit (r : Bool) (c : Dev nD) (s : ℕ) : (dstV r c s).view.dmaCredit = NN := by
  unfold dstV; split
  · exact slotV_credit r s
  · exact chV_credit r _

end Cert.RingProof

end
-- ==== Proof.Protocol.lean ====
/-
The protocol: what each chunk holds after each step, what each semaphore hands over, what each device owes, and the
levels that order the waits. A step's destination sits in a slot that its receiver releases and its sender takes.
-/
module

public import proofs.«01_k».proof.Proof.Geometry
public import Idealize.ShloMosaic.Lib.Pipeline.Launch
public import Idealize.ShloMosaic.Lib.Pipeline.Kit
public import Idealize.ShloMosaic.Lib.Release
public import Idealize.SL.BI.BigOpNat
public import Mathlib.Algebra.BigOperators.Intervals

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## Contents -/

/-- A device's whole output, -/
abbrev Whole (F : FTy → Type) := Vec F S4096x2048 .f32
/-- and one chunk. -/
abbrev Chunk (F : FTy → Type) := Vec F S128x1024 .f32

variable (A : Dev nD → Whole F)

/-- Device `c`'s own product on its chunk at place `p`. -/
def part (r : Bool) (c : Dev nD) (p : ℕ) : Chunk F := fun j => A c ((chunkR (off r (ck r c p)) (off_in r (ck r c p))).emb j)

/-- What step `s` of ring `r` sends from device `c`: its own product at first, then its product plus what arrived; at
    place 31 the sum is complete and is cut below at zero; from there on what arrived. -/
def val (r : Bool) : ℕ → Dev nD → Chunk F
  | 0, c => part A r c 0
  | s + 1, c => if s < 30 then addf (part A r c (s + 1)) (val r s (pr r c))
      else if s = 30 then reluP (addf (part A r c (s + 1)) (val r s (pr r c)) : FVec F S128x1024 .f32)
      else val r s (pr r c)

/-! ## The resource algebra -/

/-- A destination: the receiving device, the ring and the step. -/
abbrev Key : Type := Dev nD × Bool × ℕ
/-- The kernel's part: rounds of the cells, and slots of the destinations. -/
abbrev UB : Type := URounds (GSem nD τ sig) ℕ × USlots Key
/-- With the pipeline's part. -/
abbrev UU : Type := UR sig nD τ × UB

local notation "𝕄" => MT nD τ sig ℕ (Elt F) ℕ UU ℕ

/-- Where the pipeline's part lies, -/
abbrev EP : Emb (UR sig nD τ) (MT nD τ sig ℕ (Elt F) ℕ UU ℕ) := embL
/-- where the rounds lie, -/
abbrev ER : Emb (URounds (GSem nD τ sig) ℕ) (MT nD τ sig ℕ (Elt F) ℕ UU ℕ) :=
  (Emb.inl : Emb _ (URounds (GSem nD τ sig) ℕ × USlots Key)).trans embR
/-- and where the slots lie. -/
abbrev ES : Emb (USlots Key) (MT nD τ sig ℕ (Elt F) ℕ UU ℕ) :=
  (Emb.inr : Emb _ (URounds (GSem nD τ sig) ℕ × USlots Key)).trans embR

/-! ## Cells -/

/-- The barrier's cell, -/
abbrev barCell (c : Dev nD) : GSem nD τ sig := ((c : Thread nD τ), .reg barS)
/-- the acknowledgements', -/
abbrev ackCell (r : Bool) (c : Dev nD) : GSem nD τ sig := ((c : Thread nD τ), .reg (ackS r))
/-- step `s`'s send cell -/
abbrev sendCell (r : Bool) (c : Dev nD) (s : ℕ) : GSem nD τ sig := ((c : Thread nD τ), .dma (semAt (sendA r) s))
/-- and its receive cell. -/
abbrev recvCell (r : Bool) (c : Dev nD) (s : ℕ) : GSem nD τ sig := ((c : Thread nD τ), .dma (semAt (recvA r) s))

/-- Steps four apart share their send cell -/
theorem sendCell_add (r : Bool) (c : Dev nD) (s : ℕ) : sendCell r c (s + 4) = sendCell r c s := by
  unfold sendCell; rw [semAt_congr _ (Nat.add_mod_right s 4)]
/-- and their receive cell. -/
theorem recvCell_add (r : Bool) (c : Dev nD) (s : ℕ) : recvCell r c (s + 4) = recvCell r c s := by
  unfold recvCell; rw [semAt_congr _ (Nat.add_mod_right s 4)]

/-! ## What is held and handed over -/

/-- Chunk `k` of device `c`'s output, holding `X`. -/
def chunkAt (c : Dev nD) (r : Bool) (k : Fin 32) (X : Chunk F) : sProp 𝕄 := owns (c : Thread nD τ) (chV r k) fullShare X
/-- Step `s`'s slot on device `c`, holding `X`. -/
def slotAt (c : Dev nD) (r : Bool) (s : ℕ) (X : Chunk F) : sProp 𝕄 := owns (c : Thread nD τ) (slotV r s) fullShare X
/-- Step `s`'s destination on device `c`, holding `X`. -/
def dstAt (c : Dev nD) (r : Bool) (s : ℕ) (X : Chunk F) : sProp 𝕄 := owns (c : Thread nD τ) (dstV r c s) fullShare X

/-- In the first half a copy lands in a slot, -/
theorem dstAt_slot (c : Dev nD) (r : Bool) {s : ℕ} (h : s < 31) (X : Chunk F) : dstAt c r s X = slotAt c r s X := by
  unfold dstAt slotAt dstV; rw [if_pos h]
/-- in the second in the output. -/
theorem dstAt_chunk (c : Dev nD) (r : Bool) {s : ℕ} (h : ¬ s < 31) (X : Chunk F) : dstAt c r s X = chunkAt c r (ck r c (s + 1)) X := by
  unfold dstAt chunkAt dstV; rw [if_neg h]

/-- A chunk may be put under the protocol, -/
instance chunkAt_storable (c : Dev nD) (r : Bool) (k : Fin 32) (X : Chunk F) : BI.Storable (upEmb : UEmb _ 𝕄) (chunkAt c r k X) := by
  unfold chunkAt; infer_instance
/-- and so may a destination. -/
instance dstAt_storable (c : Dev nD) (r : Bool) (s : ℕ) (X : Chunk F) : BI.Storable (upEmb : UEmb _ 𝕄) (dstAt c r s X) := by
  unfold dstAt; infer_instance

/-- What a receiver releases for step `s`: the destination, and that its receive cell has reached the step's round. -/
def free (x : Key) : sProp 𝕄 :=
  iprop((∃ X, dstAt (F := F) x.1 x.2.1 x.2.2 X) ∗ reached ER (recvCell x.2.1 x.1 x.2.2) (x.2.2 / 4))
/-- It may be put under the protocol. -/
instance free_storable (x : Key) : BI.Storable (upEmb : UEmb _ 𝕄) (free (F := F) x) := by unfold free; infer_instance

/-- Device `c` has released the destinations of the first `n` steps of ring `r`. -/
def freed (c : Dev nD) (r : Bool) (n : ℕ) : sProp 𝕄 := bigSep (Finset.range n) fun s => released ES (c, r, s) 1
/-- That may be said again and again, -/
instance freed_persistent (c : Dev nD) (r : Bool) (n : ℕ) : BI.Persistent (freed (F := F) c r n) := by unfold freed; infer_instance
/-- and put under the protocol. -/
instance freed_storable (c : Dev nD) (r : Bool) (n : ℕ) : BI.Storable (upEmb : UEmb _ 𝕄) (freed (F := F) c r n) := by unfold freed; infer_instance

/-- Each of them is released. -/
theorem freed_at {c : Dev nD} {r : Bool} {n s : ℕ} (h : s < n) : (freed (F := F) c r n) ⊢ released ES (c, r, s) 1 :=
  bigSep_elim (Finset.mem_range.mpr h)

/-! ## The schedule -/

/-- Round `j` of a copy's cell at slot `k` is step `4 j + k`. An acknowledgement's cell has one round of 58 units, each
    telling what its sender had released by then. -/
def sched : Rounds.Schedule (GSem nD τ sig) ℕ 𝕄 where
  duties g j := if g.1.2 = .tc then (match useOf g.2 with
    | .bar => if j = 0 then {0, 1} else ∅
    | .ack _ => if j = 0 then Finset.range 58 else ∅
    | .send _ k | .recv _ k => if 4 * j + k < 62 then {0} else ∅
    | .other => ∅) else ∅
  unitless _ := False
  amount g _ _ := match useOf g.2 with
    | .send _ _ | .recv _ _ => NN
    | _ => 1
  payload g j d := match useOf g.2 with
    | .bar => freed (nx (decide (d = 1)) g.1.1) (decide (d = 1)) 4
    | .ack r => freed (nx r g.1.1) r (d + 5)
    | .send r k => chunkAt g.1.1 r (ck r g.1.1 (4 * j + k)) (val A r (4 * j + k) g.1.1)
    | .recv r k => dstAt g.1.1 r (4 * j + k) (val A r (4 * j + k) (pr r g.1.1))
    | .other => iprop(emp)
  amount_pos g _ _ _ := by
    split
    · exact NN_pos
    · exact NN_pos
    · exact Nat.one_pos

/-- All that the schedule hands over may be put under the protocol. -/
instance sched_storable (g : GSem nD τ sig) (j : ℕ) (d : ℕ) : BI.Storable (upEmb : UEmb _ 𝕄) ((sched A).payload g j d) := by
  dsimp only [sched]; split <;> infer_instance

section Facts
variable (c : Dev nD) (r : Bool)

/-- A step by its round and its slot. -/
theorem step_eq (s : ℕ) : 4 * (s / 4) + s % 4 = s := Nat.div_add_mod s 4

/-- The barrier takes two signals, -/
theorem duties_bar : (sched A).duties (barCell c) 0 = {0, 1} := by dsimp only [sched]; rw [if_pos rfl, use_bar]; rfl
/-- the acknowledgement cell 58 in one round, -/
theorem duties_ack : (sched A).duties (ackCell r c) 0 = Finset.range 58 := by dsimp only [sched]; rw [if_pos rfl, use_ack]; rfl
/-- a send cell one copy in each round, -/
theorem duties_send {s : ℕ} (h : s < 62) : (sched A).duties (sendCell r c s) (s / 4) = {0} := by
  dsimp only [sched]; rw [if_pos rfl, use_send]; dsimp only; rw [step_eq, if_pos h]
/-- and so does a receive cell. -/
theorem duties_recv {s : ℕ} (h : s < 62) : (sched A).duties (recvCell r c s) (s / 4) = {0} := by
  dsimp only [sched]; rw [if_pos rfl, use_recv]; dsimp only; rw [step_eq, if_pos h]

/-- Nothing comes later on the barrier, -/
theorem later_bar : ∀ j, 1 ≤ j → (sched A).duties (barCell c) j = ∅ := fun j hj => by
  dsimp only [sched]; rw [if_pos rfl, use_bar]; exact if_neg (by omega)
/-- on the acknowledgement cell, -/
theorem later_ack : ∀ j, 1 ≤ j → (sched A).duties (ackCell r c) j = ∅ := fun j hj => by
  dsimp only [sched]; rw [if_pos rfl, use_ack]; exact if_neg (by omega)
/-- on a send cell after step 61 -/
theorem later_send {s : ℕ} (h : 62 ≤ s) : ∀ j, s / 4 ≤ j → (sched A).duties (sendCell r c s) j = ∅ := fun j hj => by
  dsimp only [sched]; rw [if_pos rfl, use_send]; exact if_neg (by omega)
/-- and on a receive cell. -/
theorem later_recv {s : ℕ} (h : 62 ≤ s) : ∀ j, s / 4 ≤ j → (sched A).duties (recvCell r c s) j = ∅ := fun j hj => by
  dsimp only [sched]; rw [if_pos rfl, use_recv]; exact if_neg (by omega)

/-- A barrier signal counts one, -/
theorem amount_bar (j d : ℕ) : (sched A).amount (barCell c) j d = 1 := by dsimp only [sched]; rw [use_bar]
/-- an acknowledgement too, -/
theorem amount_ack (j d : ℕ) : (sched A).amount (ackCell r c) j d = 1 := by dsimp only [sched]; rw [use_ack]
/-- a copy that has left a chunk's credit, -/
theorem amount_send (s j d : ℕ) : (sched A).amount (sendCell r c s) j d = NN := by dsimp only [sched]; rw [use_send]
/-- and one that has arrived as well. -/
theorem amount_recv (s j d : ℕ) : (sched A).amount (recvCell r c s) j d = NN := by dsimp only [sched]; rw [use_recv]

/-- The barrier hands over a neighbour's first four destinations, -/
theorem payload_bar (r : Bool) : (sched A).payload (barCell c) 0 r.toNat = freed (nx r c) r 4 := by
  dsimp only [sched]; rw [use_bar]; cases r <;> rfl
/-- acknowledgement `d` all up to that of step `d + 4`, -/
theorem payload_ack (j d : ℕ) : (sched A).payload (ackCell r c) j d = freed (nx r c) r (d + 5) := by
  dsimp only [sched]; rw [use_ack]
/-- a send its chunk, -/
theorem payload_send (s d : ℕ) : (sched A).payload (sendCell r c s) (s / 4) d = chunkAt c r (ck r c s) (val A r s c) := by
  dsimp only [sched]; rw [use_send]; dsimp only; rw [step_eq]
/-- and a receive the destination with what was sent. -/
theorem payload_recv (s d : ℕ) : (sched A).payload (recvCell r c s) (s / 4) d = dstAt c r s (val A r s (pr r c)) := by
  dsimp only [sched]; rw [use_recv]; dsimp only; rw [step_eq]

/-- In all the barrier counts to 2, -/
theorem expect_bar : (sched A).expect (barCell c) 0 = 2 := by
  unfold Schedule.expect; simp only [Schedule.amountOf, duties_bar, amount_bar]; rfl
/-- the acknowledgements to 58, -/
theorem expect_ack : (sched A).expect (ackCell r c) 0 = 58 := by
  unfold Schedule.expect; simp only [Schedule.amountOf, duties_ack, amount_ack]; simp
/-- a send to one chunk -/
theorem expect_send {s : ℕ} (h : s < 62) : (sched A).expect (sendCell r c s) (s / 4) = NN := by
  unfold Schedule.expect; simp only [Schedule.amountOf, duties_send A c r h, amount_send]; simp
/-- and a receive to one chunk. -/
theorem expect_recv {s : ℕ} (h : s < 62) : (sched A).expect (recvCell r c s) (s / 4) = NN := by
  unfold Schedule.expect; simp only [Schedule.amountOf, duties_recv A c r h, amount_recv]; simp

/-- What waiting for the whole barrier gives, -/
theorem rest_bar : bigSep ((sched A).duties (barCell c) 0 \ ∅) (fun d => (sched A).payload (barCell c) 0 d)
    = iprop(freed (nx false c) false 4 ∗ freed (nx true c) true 4) := by
  rw [Finset.sdiff_empty, duties_bar, bigSep_insert (by decide), bigSep_singleton]
  exact congrArg₂ _ (payload_bar A c false) (payload_bar A c true)
/-- for a send -/
theorem rest_send {s : ℕ} (h : s < 62) : bigSep ((sched A).duties (sendCell r c s) (s / 4) \ ∅) (fun d => (sched A).payload (sendCell r c s) (s / 4) d)
    = chunkAt c r (ck r c s) (val A r s c) := by
  rw [Finset.sdiff_empty, duties_send A c r h, bigSep_singleton, payload_send]
/-- and for a receive. -/
theorem rest_recv {s : ℕ} (h : s < 62) : bigSep ((sched A).duties (recvCell r c s) (s / 4) \ ∅) (fun d => (sched A).payload (recvCell r c s) (s / 4) d)
    = dstAt c r s (val A r s (pr r c)) := by
  rw [Finset.sdiff_empty, duties_recv A c r h, bigSep_singleton, payload_recv]

end Facts

/-! ## What a device owes, and the levels -/

/-- Amounts owed, by cell and index. -/
abbrev Tallies := CellTallies nD τ sig ℕ

/-- The copies of ring `r` still to be sent, from step `a` on, and the acknowledgements still to be given, from `b` on. -/
def owedS (r : Bool) (c : Dev nD) (a : ℕ) : Tallies := ∑ s ∈ Finset.Ico a 62, tallyAt (recvCell r (nx r c) s) s NN
/-- The acknowledgements. -/
def owedA (r : Bool) (c : Dev nD) (b : ℕ) : Tallies := ∑ s ∈ Finset.Ico b 58, tallyAt (ackCell r (pr r c)) s 1

/-- The first of the copies owed, apart from the rest, -/
theorem owedS_step (r : Bool) (c : Dev nD) {a : ℕ} (h : a < 62) :
    owedS r c a = owedS r c (a + 1) + tallyAt (recvCell r (nx r c) a) a NN := by
  unfold owedS; rw [Finset.sum_eq_sum_Ico_succ_bot h, add_comm]
/-- and the first acknowledgement. -/
theorem owedA_step (r : Bool) (c : Dev nD) {b : ℕ} (h : b < 58) :
    owedA r c b = owedA r c (b + 1) + tallyAt (ackCell r (pr r c)) b 1 := by
  unfold owedA; rw [Finset.sum_eq_sum_Ico_succ_bot h, add_comm]
/-- After step 61 no copy is owed, -/
theorem owedS_end (r : Bool) (c : Dev nD) {a : ℕ} (h : 62 ≤ a) : owedS r c a = 0 := by
  unfold owedS; rw [Finset.Ico_eq_empty_of_le h, Finset.sum_empty]
/-- and after step 57 no acknowledgement. -/
theorem owedA_end (r : Bool) (c : Dev nD) {b : ℕ} (h : 58 ≤ b) : owedA r c b = 0 := by
  unfold owedA; rw [Finset.Ico_eq_empty_of_le h, Finset.sum_empty]

/-- The indices in use: one for each step. -/
def L (g : GSem nD τ sig) : Finset ℕ := if g.1.2 = .tc then Finset.range 62 else ∅
/-- A receive comes before the acknowledgement of the same step, and both before those of later steps. -/
def lv (g : GSem nD τ sig) (i : ℕ) : ℕ := match useOf g.2 with
  | .bar => 1 | .recv _ _ => 2 * i + 2 | .ack _ => 2 * i + 3 | _ => 0

/-- There is none but on the device's main thread, -/
theorem L_of_ne (g : GSem nD τ sig) (h : g.1.2 ≠ .tc) : L g = ∅ := if_neg h
/-- where it is one for each step. -/
theorem L_tc (c : Dev nD) (sm : SemLoc sig) : L ((c : Thread nD τ), sm) = Finset.range 62 := if_pos rfl

/-- Everything in `O` lies above level `n`. -/
def Above (n : ℕ) (O : Tallies) : Prop := ∀ g i, 0 < O g i → i ∈ L g ∧ n < lv g i

/-- Nothing lies above every level, -/
theorem above_zero (n : ℕ) : Above n 0 := fun g i h => absurd h (Nat.lt_irrefl 0)
/-- a sum does if both parts do, -/
theorem above_add {n : ℕ} {O O' : Tallies} (h : Above n O) (h' : Above n O') : Above n (O + O') := fun g i hg => by
  rw [Pi.add_apply, Finsupp.add_apply] at hg
  rcases Nat.eq_zero_or_pos (O g i) with h0 | h0
  · exact h' g i (by omega)
  · exact h g i h0
/-- one amount if its level does, -/
theorem above_tally {n : ℕ} {g : GSem nD τ sig} {i k : ℕ} (hi : i ∈ L g) (hl : n < lv g i) : Above n (tallyAt g i k) := fun g' i' h => by
  rw [tallyAt_apply] at h
  by_cases e : g' = g ∧ i' = i
  · rw [e.1, e.2]; exact ⟨hi, hl⟩
  · rw [if_neg e] at h; exact absurd h (Nat.lt_irrefl 0)
/-- and a sum of many if each does. -/
theorem above_sum {n : ℕ} (S : Finset ℕ) (O : ℕ → Tallies) (h : ∀ s ∈ S, Above n (O s)) : Above n (∑ s ∈ S, O s) := by
  classical
  induction S using Finset.induction_on with
  | empty => exact above_zero n
  | insert a S ha ih =>
    rw [Finset.sum_insert ha]
    exact above_add (h a (Finset.mem_insert_self _ _)) (ih fun s hs => h s (Finset.mem_insert_of_mem hs))
/-- The copies owed from step `a` on lie above all levels before its receive, -/
theorem above_owedS (r : Bool) (c : Dev nD) {n a : ℕ} (h : n < 2 * a + 2) : Above n (owedS r c a) :=
  above_sum _ _ fun s hs => by
    have := Finset.mem_Ico.mp hs
    refine above_tally (by rw [L_tc]; exact Finset.mem_range.mpr (by omega)) ?_
    unfold lv; rw [use_recv]; dsimp only; omega
/-- and the acknowledgements from step `b` on above all levels before its own. -/
theorem above_owedA (r : Bool) (c : Dev nD) {n b : ℕ} (h : n < 2 * b + 3) : Above n (owedA r c b) :=
  above_sum _ _ fun s hs => by
    have := Finset.mem_Ico.mp hs
    refine above_tally (by rw [L_tc]; exact Finset.mem_range.mpr (by omega)) ?_
    unfold lv; rw [use_ack]; dsimp only; omega

/-- A wait at a level may be taken while only higher levels are owed. -/
theorem mayWait (c : Dev nD) (sm : SemLoc sig) (i n : ℕ) (O : Tallies) (hi : i < 62) (hl : lv ((c : Thread nD τ), sm) i ≤ n) (hO : Above n O) :
    (levAts L lv : sProp 𝕄) ⊢ MayWait (c : Thread nD τ) sm i O :=
  MayOwe.of_cut (L := L) (lev := lv) n
    (fun p hp => by rw [Finset.mem_singleton.mp hp, L_tc]; exact Finset.mem_range.mpr hi)
    (fun g u hg => (hO g u hg).1) (fun p hp => by rw [Finset.mem_singleton.mp hp]; exact hl) (fun g u hg => (hO g u hg).2)

end Cert.RingProof

end
-- ==== Proof.Ops.lean ====
/-
One rule per operation of a step: what a device holds before it and after it. The resources of a ring are kept in
families indexed by the step they serve, and each operation takes one member off a family or puts one on.
-/
module

public import proofs.«01_k».proof.Proof.Protocol
public import Idealize.ShloMosaic.Lib.Tactic

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (A : Dev nD → Whole F)

local notation "𝕄" => MT nD τ sig ℕ (Elt F) ℕ UU ℕ

/-- No measure is needed: the body has no loop. -/
abbrev 𝒱₀ : Variants := Variants.none

/-- The program `p` runs safely on device `c` and ends in `Q`. -/
abbrev Runs (c : Dev nD) (p : PG F) (Q : PUnit → sProp 𝕄) : sProp 𝕄 :=
  wp frame (wpE (defs₀ (F := F)) 𝒱₀ (c : Thread nD τ) none) Set.univ p Q

/-! ## The facts every device has -/

/-- A device's semaphores that the protocol uses, by number: the three regular ones, then the copies' sixteen. -/
abbrev csem (j : Fin 19) : SemLoc sig := if h : j.val < 3 then .reg ⟨j.val, h⟩ else .dma j
/-- Cell `j` of a device. -/
abbrev kcell (cj : Dev nD × Fin 19) : GSem nD τ sig := ((cj.1 : Thread nD τ), csem cj.2)

/-- The 19 semaphores are different, -/
theorem csem_injective : Function.Injective csem := by decide
/-- and so are all devices' cells. -/
theorem kcell_injective : Function.Injective (kcell : Dev nD × Fin 19 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells of the mesh. -/
def cells : Finset (GSem nD τ sig) := Finset.univ.map ⟨kcell, kcell_injective⟩
/-- All destinations of the mesh, by device, ring and step. -/
def keys : Finset Key := Finset.univ ×ˢ (Finset.univ ×ˢ Finset.range 62)

/-- The barrier cells are among the cells, -/
theorem mem_bar (c : Dev nD) : barCell c ∈ cells := Finset.mem_map.mpr ⟨(c, 2), Finset.mem_univ _, rfl⟩
/-- so are the acknowledgement cells, -/
theorem mem_ack (r : Bool) (c : Dev nD) : ackCell r c ∈ cells := by
  cases r
  · exact Finset.mem_map.mpr ⟨(c, 0), Finset.mem_univ _, rfl⟩
  · exact Finset.mem_map.mpr ⟨(c, 1), Finset.mem_univ _, rfl⟩
/-- the cells of copies, -/
theorem mem_dma (c : Dev nD) (q : DmaSem sig) (h : ¬ q.val < 3) : (((c : Thread nD τ), SemLoc.dma q) : GSem nD τ sig) ∈ cells :=
  Finset.mem_map.mpr ⟨(c, q), Finset.mem_univ _, by show ((c : Thread nD τ), csem q) = _; unfold csem; rw [dif_neg h]⟩
/-- (a semaphore with a use is not one of the pipeline's own) -/
theorem dma_val (q : DmaSem sig) (h : useOf (.dma q) ≠ .other) : ¬ q.val < 3 := fun h' => h (by unfold useOf; exact if_pos h')
/-- thus the send cells -/
theorem mem_send (r : Bool) (c : Dev nD) (s : ℕ) : sendCell r c s ∈ cells :=
  mem_dma c _ (dma_val _ (by rw [use_send]; exact fun h => by cases h))
/-- and the receive cells, -/
theorem mem_recv (r : Bool) (c : Dev nD) (s : ℕ) : recvCell r c s ∈ cells :=
  mem_dma c _ (dma_val _ (by rw [use_recv]; exact fun h => by cases h))
/-- and every step's destination is among the destinations. -/
theorem mem_key (c : Dev nD) (r : Bool) {s : ℕ} (h : s < 62) : ((c, r, s) : Key) ∈ keys :=
  Finset.mem_product.mpr ⟨Finset.mem_univ _, Finset.mem_product.mpr ⟨Finset.mem_univ _, Finset.mem_range.mpr h⟩⟩

/-- Every cell's invariant, every released slot's, that every cell is at round 0 at least, and the levels. -/
def env : sProp 𝕄 :=
  iprop((bigSep cells fun g => iprop(∃ κ : ℕ, cellInv ER (sched A) κ g)) ∗ (bigSep keys fun k => iprop(∃ κ : ℕ, slotInv ES κ k (free k)))
    ∗ (bigSep cells fun g => reached ER g 0) ∗ levAts L lv)
/-- What all know may be used again and again. -/
instance env_persistent : BI.Persistent (env A) := by unfold env; infer_instance

/-- Each cell is under the protocol, -/
theorem env_cell {g : GSem nD τ sig} (h : g ∈ cells) : env A ⊢ iprop(∃ κ : ℕ, cellInv ER (sched A) κ g) := by
  refine BIBase.Entails.trans ?_ (bigSep_elim (Φ := fun g => iprop(∃ κ : ℕ, cellInv ER (sched A) κ g)) h)
  unfold env; iintro ⟨H, -⟩; iexact H
/-- each destination is too, -/
theorem env_slot {k : Key} (h : k ∈ keys) : env A ⊢ iprop(∃ κ : ℕ, slotInv ES κ k (free k)) := by
  refine BIBase.Entails.trans ?_ (bigSep_elim (Φ := fun k : Key => iprop(∃ κ : ℕ, slotInv ES κ k (free k))) h)
  unfold env; iintro ⟨-, H, -⟩; iexact H
/-- each cell has reached its first round, -/
theorem env_reached {g : GSem nD τ sig} (h : g ∈ cells) : env A ⊢ reached ER g 0 := by
  refine BIBase.Entails.trans ?_ (bigSep_elim (Φ := fun g : GSem nD τ sig => reached ER g 0) h)
  unfold env; iintro ⟨-, -, H, -⟩; iexact H
/-- and the levels are fixed. -/
theorem env_lev : env A ⊢ levAts L lv := by unfold env; iintro ⟨-, -, -, H⟩; iexact H

/-- The level of a receive, -/
theorem lv_recv (c : Dev nD) (r : Bool) (s : ℕ) : lv (recvCell r c s) s ≤ 2 * s + 2 := by unfold lv; rw [use_recv]
/-- of a send, -/
theorem lv_send (c : Dev nD) (r : Bool) (s : ℕ) : lv (sendCell r c s) s ≤ 0 := by unfold lv; rw [use_send]
/-- of an acknowledgement, -/
theorem lv_ack (c : Dev nD) (r : Bool) (i : ℕ) : lv (ackCell r c) i ≤ 2 * i + 3 := by unfold lv; rw [use_ack]
/-- and of the barrier. -/
theorem lv_bar (c : Dev nD) (i : ℕ) : lv (barCell c) i ≤ 1 := by unfold lv; rw [use_bar]
/-- A device may wait where all that it owes lies above. -/
theorem env_mayWait (c : Dev nD) (sm : SemLoc sig) (i : ℕ) (O : Tallies) (n : ℕ) (hi : i < 62)
    (hl : lv (((c : Thread nD τ), sm) : GSem nD τ sig) i ≤ n) (hO : Above n O) : env A ⊢ MayWait (c : Thread nD τ) sm i O :=
  (@env_lev F _ A).trans (mayWait (F := F) c sm i n O hi hl hO)

/-! ## The families -/

/-- Device `c` owes `O`. -/
def ow (c : Dev nD) (O : Tallies) : sProp 𝕄 := iprop(∃ W, owes (c : Thread nD τ) O W)

/-- What the receives from step `n` on need. -/
def recvB (r : Bool) (c : Dev nD) (n : ℕ) : sProp 𝕄 :=
  iprop((bigSep (Finset.Ico n 62) fun t => cred (tallyAt (recvCell r c t) t NN))
    ∗ bigSep (Finset.Ico n (n + 4)) fun t => iprop(atPos ER (recvCell r c t) (t / 4) ∅ 0 ∗ reached ER (recvCell r c t) (t / 4)))
/-- What the sends from step `n` on need. -/
def sendT (r : Bool) (c : Dev nD) (n : ℕ) : sProp 𝕄 :=
  bigSep (Finset.Ico n 62) fun t => iprop(dutyTok ER (sendCell r c t) (t / 4) 0 ∗ dutyTok ER (recvCell r (nx r c) t) (t / 4) 0
    ∗ writeTok ES ((nx r c, r, t) : Key) 1)
/-- The sends in flight: from step `w` up to step `n`. -/
def sendC (r : Bool) (c : Dev nD) (w n : ℕ) : sProp 𝕄 :=
  bigSep (Finset.Ico w n) fun t => cred (tallyAt (sendCell r c t) t NN)
/-- The positions of the four send cells, from step `w` on. -/
def sendP (r : Bool) (c : Dev nD) (w : ℕ) : sProp 𝕄 :=
  bigSep (Finset.Ico w (w + 4)) fun t => iprop(atPos ER (sendCell r c t) (t / 4) ∅ 0 ∗ reached ER (sendCell r c t) (t / 4))
/-- What the acknowledgements from step `i` on need. -/
def ackO (r : Bool) (c : Dev nD) (i : ℕ) : sProp 𝕄 :=
  iprop((bigSep (Finset.Ico i 58) fun t => dutyTok ER (ackCell r (pr r c)) 0 t)
    ∗ bigSep (Finset.Ico (i + 4) 62) fun t => readerAt ES ((c, r, t) : Key) 0)
/-- `k` acknowledgements taken, and what they told. -/
def ackI (r : Bool) (c : Dev nD) (k : ℕ) : sProp 𝕄 :=
  iprop((bigSep (Finset.Ico k 58) fun t => cred (tallyAt (ackCell r c) t 1))
    ∗ ∃ T : Finset ℕ, ⌜T ⊆ Finset.range 58 ∧ k ≤ T.card⌝ ∗ atPos ER (ackCell r c) 0 T k
      ∗ bigSep T fun d => freed (F := F) (nx r c) r (d + 5))

/-! ## Loads and stores -/

/-- A load of a chunk, -/
theorem wp_loadC (c : Dev nD) (r : Bool) (k : Fin 32) {o : Fin 2 → ℕ} (h : OffIn o) (e : o = off r k) (X : Chunk F)
    (K : Chunk F → PG F) (Q : PUnit → sProp 𝕄) :
    chunkAt c r k X ⊢ iprop((chunkAt c r k X -∗ Runs c (K X) Q) -∗ Runs c (loadC o h K) Q) := by
  subst e
  unfold chunkAt owns loadC
  iintro ⟨%f, %hf, Hp⟩ Hk
  iapply (wp_load_rect 𝒱₀ (c : Thread nD τ) none Set.univ (m := oM) (r := chunkR (off r k) h) (Finset.Subset.refl _)) $$ Hp
  iintro Hp
  rw [show ((oM.access (chunkR (off r k) h) : View sig .tc _ _ _)).read (Elt F) f = X from hf]
  iapply Hk
  iexists f
  isplitr; · ipureintro; exact hf
  iexact Hp

/-- a store over one, -/
theorem wp_storeC (c : Dev nD) (r : Bool) (k : Fin 32) {o : Fin 2 → ℕ} (h : OffIn o) (e : o = off r k) (X Y : Chunk F)
    (K : PG F) (Q : PUnit → sProp 𝕄) :
    chunkAt c r k X ⊢ iprop((chunkAt c r k Y -∗ Runs c K Q) -∗ Runs c (storeC o h Y K) Q) := by
  subst e
  unfold chunkAt owns storeC
  iintro ⟨%f, %hf, Hp⟩ Hk
  iapply (wp_store 𝒱₀ (c : Thread nD τ) none Set.univ (m := oM) (r := chunkR (off r k) h) (Mk := Finset.univ)
    (S := (chV r k).view.set) (by exact Finset.Subset.refl _)) $$ Hp
  iintro Hp
  iapply Hk
  iexists _
  isplitr; rotate_left; · iexact Hp
  ipureintro
  exact View.read_write_univ (v := (chV r k).view) f Y

/-- and a load of a slot. -/
theorem wp_loadS (c : Dev nD) (r : Bool) (s : ℕ) (X : Chunk F) (K : Vec F S1x128x1024 .f32 → PG F) (Q : PUnit → sProp 𝕄) :
    slotAt c r s X ⊢ iprop((∀ u : Vec F S1x128x1024 .f32, ⌜shapeCast S128x1024 u shapeCasts_S1x128x1024_S128x1024 = X⌝ -∗ slotAt c r s X -∗ Runs c (K u) Q)
      -∗ Runs c (loadS r s K) Q) := by
  unfold slotAt owns loadS slotV
  iintro ⟨%f, %hf, Hp⟩ Hk
  iapply (wp_load_rect 𝒱₀ (c : Thread nD τ) none Set.univ (m := commM r) (r := slotR s)
    (S := (((commM r).slice (slotR s) (fun _ => rfl)).squeeze S128x1024 squeezes_S1x128x1024_S128x1024).view.set)
    (subset_of_eq (View.set_reshape (((commM r).slice (slotR s) (fun _ => rfl)).view) _).symm)) $$ Hp
  iintro Hp
  iapply Hk
  · ipureintro; rw [← hf]; exact (Memref.read_squeeze_slice (commM r) (slotR s) _ _ shapeCasts_S1x128x1024_S128x1024 f).symm
  iexists f
  isplitr; · ipureintro; exact hf
  iexact Hp

/-- What is stored is the chunk plus the slot's contents. -/
theorem accP_eq (X Y : Chunk F) (u : Vec F S1x128x1024 .f32) (h : shapeCast S128x1024 u shapeCasts_S1x128x1024_S128x1024 = Y) :
    accP X u = (addf X Y : FVec F S128x1024 .f32) := by
  unfold accP k0_pay2; dsimp only; rw [h, shapeCast_self]

/-- A step's accumulation: the chunk gains what the slot holds. -/
theorem wp_accum (c : Dev nD) (r : Bool) (s : ℕ) (k : Fin 32) {o : Fin 2 → ℕ} (h : OffIn o) (e : o = off r k) (X Y : Chunk F)
    (K : PG F) (Q : PUnit → sProp 𝕄) :
    iprop(chunkAt c r k X ∗ slotAt c r s Y)
      ⊢ iprop(((chunkAt c r k (addf X Y : FVec F S128x1024 .f32) ∗ slotAt c r s Y) -∗ Runs c K Q) -∗ Runs c (accum o h r s K) Q) := by
  unfold accum
  iintro ⟨HX, HY⟩ Hk
  iapply (wp_loadC c r k h e X) $$ HX; iintro HX
  iapply (wp_loadS c r s Y) $$ HY; iintro %u %hu HY
  iapply (wp_loadC c r k h e X) $$ HX; iintro HX
  iapply (wp_storeC c r k h e X) $$ HX; iintro HX
  rw [accP_eq X Y u hu]
  iapply Hk
  isplitl [HX] <;> iassumption

/-- A chunk cut below at zero. -/
theorem wp_relu (c : Dev nD) (r : Bool) (k : Fin 32) {o : Fin 2 → ℕ} (h : OffIn o) (e : o = off r k) (X : Chunk F)
    (K : PG F) (Q : PUnit → sProp 𝕄) :
    chunkAt c r k X ⊢ iprop((chunkAt c r k (reluP X) -∗ Runs c K Q) -∗ Runs c (relu o h K) Q) := by
  unfold relu
  iintro HX Hk
  iapply (wp_loadC c r k h e X) $$ HX; iintro HX
  iapply (wp_loadC c r k h e X) $$ HX; iintro HX
  iapply (wp_storeC c r k h e X) $$ HX; iintro HX
  iapply Hk; iexact HX

/-! ## Waits, signals and copies -/

/-- A copy's credit at its destination, -/
theorem dst_credit (N : Names) (r : Bool) (s : ℕ) : (N.dstV r s).view.dmaCredit = NN := by
  unfold Names.dstV; split
  · exact slotV_credit r s
  · unfold NN; rfl

/-- and at its source. -/
theorem snd_credit (N : Names) (r : Bool) (s : ℕ) : (N.sndV r s).view.dmaCredit = NN := by unfold NN; rfl

/-- The wait for step `s`'s arrival. -/
theorem wp_waitRecv (N : Names) (c : Dev nD) (r : Bool) (s : ℕ) (hs : s < 62) (O : Tallies) (hO : Above (2 * s + 2) O)
    (K : PG F) (Q : PUnit → sProp 𝕄) :
    iprop(env A ∗ recvB r c s ∗ ow c O)
      ⊢ iprop(((recvB r c (s + 1) ∗ reached ER (recvCell r c (s + 4)) ((s + 4) / 4) ∗ dstAt c r s (val A r s (pr r c)) ∗ ow c O) -∗ Runs c K Q)
        -∗ Runs c (waitRecv N r s K) Q) := by
  unfold waitRecv recvB ow
  rw [bigSep_Ico_succ_bot hs, bigSep_Ico_succ_bot (show s < s + 4 by omega)]
  iintro ⟨#He, ⟨⟨Hc, Hcs⟩, ⟨Hat, Hr0⟩, Hats⟩, %W, HO⟩ Hk
  ihave #HI := (env_cell A (mem_recv r c s)) $$ He
  icases HI with ⟨%κ, #HI⟩
  iapply (Rounds.wp_wait_rest_token 𝒱₀ ER (sched A) (c : Thread nD τ) none (κ := κ) (k' := NN)
      (fun K' => by rw [wpE_waitDma2_eq 𝒱₀ (c : Thread nD τ) none Set.univ, dst_credit N r s]) (Set.mem_univ _) s
      (O := O) (W := W) (R := s / 4) (m := 0) (T := ∅) (by rw [Nat.zero_add, expect_recv A c r hs])) $$ [Hc HO Hat]
  · isplitr; · iexact HI
    isplitl [Hc]; · iexact Hc
    isplitl [HO]; · iexact HO
    isplitr
    · iapply (env_mayWait (F := F) A c (SemLoc.dma (semAt (recvA r) s)) s O (2 * s + 2) hs (lv_recv c r s) hO); iexact He
    iexact Hat
  iintro ⟨HO, Hat, #Hr, Hpay⟩
  ihave Hd := (Entails.of_eq (rest_recv A c r hs)) $$ Hpay
  have hq : s / 4 + 1 = (s + 4) / 4 := by omega
  iapply Hk
  isplitl [Hcs Hat Hats]
  · isplitl [Hcs]; · iexact Hcs
    rw [show s + 1 + 4 = (s + 4) + 1 by omega, bigSep_Ico_succ_top (show s + 1 ≤ s + 4 by omega), recvCell_add, ← hq]
    isplitl [Hat]
    · isplitl [Hat]; · iexact Hat
      iexact Hr
    iexact Hats
  isplitr; · rw [recvCell_add, ← hq]; iexact Hr
  isplitl [Hd]; · iexact Hd
  iexists _; iexact HO

/-- The wait for step `t`'s departure: its source chunk comes back. -/
theorem wp_waitSend1 (N : Names) (c : Dev nD) (r : Bool) (t : ℕ) (ht : t < 62) (O : Tallies) (hO : Above 0 O) (K : PG F) (Q : PUnit → sProp 𝕄) :
    iprop(env A ∗ cred (tallyAt (sendCell r c t) t NN) ∗ atPos ER (sendCell r c t) (t / 4) ∅ 0 ∗ ow c O)
      ⊢ iprop(((iprop(atPos ER (sendCell r c (t + 4)) ((t + 4) / 4) ∅ 0 ∗ reached ER (sendCell r c (t + 4)) ((t + 4) / 4))
            ∗ chunkAt c r (ck r c t) (val A r t c) ∗ ow c O) -∗ Runs c K Q)
        -∗ Runs c (waitSend N r t K) Q) := by
  unfold waitSend ow
  iintro ⟨#He, Hc, Hat, %W, HO⟩ Hk
  ihave #HI := (env_cell A (mem_send r c t)) $$ He
  icases HI with ⟨%κ, #HI⟩
  iapply (Rounds.wp_wait_rest_token 𝒱₀ ER (sched A) (c : Thread nD τ) none (κ := κ) (k' := NN)
      (fun K' => by rw [wpE_waitDma2_eq 𝒱₀ (c : Thread nD τ) none Set.univ, snd_credit N r t]) (Set.mem_univ _) t
      (O := O) (W := W) (R := t / 4) (m := 0) (T := ∅) (by rw [Nat.zero_add, expect_send A c r ht])) $$ [Hc HO Hat]
  · isplitr; · iexact HI
    isplitl [Hc]; · iexact Hc
    isplitl [HO]; · iexact HO
    isplitr
    · iapply (env_mayWait (F := F) A c (SemLoc.dma (semAt (sendA r) t)) t O 0 ht (lv_send c r t) hO); iexact He
    iexact Hat
  iintro ⟨HO, Hat, #Hr, Hpay⟩
  ihave Hd := (Entails.of_eq (rest_send A c r ht)) $$ Hpay
  iapply Hk
  isplitl [Hat]
  · rw [sendCell_add, show (t + 4) / 4 = t / 4 + 1 by omega]
    isplitl [Hat]; · iexact Hat
    iexact Hr
  isplitl [Hd]; · iexact Hd
  iexists _; iexact HO

/-- The same, in the families. -/
theorem wp_waitSend (N : Names) (c : Dev nD) (r : Bool) (t n : ℕ) (ht : t < 62) (hn : t < n) (O : Tallies) (hO : Above 0 O)
    (K : PG F) (Q : PUnit → sProp 𝕄) :
    iprop(env A ∗ sendC r c t n ∗ sendP r c t ∗ ow c O)
      ⊢ iprop(((sendC r c (t + 1) n ∗ sendP r c (t + 1) ∗ chunkAt c r (ck r c t) (val A r t c) ∗ ow c O) -∗ Runs c K Q)
        -∗ Runs c (waitSend N r t K) Q) := by
  unfold sendC sendP
  rw [bigSep_Ico_succ_bot hn, bigSep_Ico_succ_bot (show t < t + 4 by omega), show t + 1 + 4 = (t + 4) + 1 by omega,
    bigSep_Ico_succ_top (show t + 1 ≤ t + 4 by omega)]
  iintro ⟨#He, ⟨Hc, Hcs⟩, ⟨⟨Hat, -⟩, Hats⟩, HO⟩ Hk
  iapply (wp_waitSend1 A N c r t ht O hO) $$ [Hc Hat HO]
  · isplitr; · iexact He
    isplitl [Hc]; · iexact Hc
    isplitl [Hat] <;> iassumption
  iintro ⟨Hat, Hd, HO⟩
  iapply Hk
  isplitl [Hcs]; · iexact Hcs
  isplitl [Hat Hats]; · isplitl [Hat] <;> iassumption
  isplitl [Hd] <;> iassumption

/-- Each of the four send cells has reached its step's round. -/
theorem sendP_reached (c : Dev nD) (r : Bool) {s w : ℕ} (hw : w ≤ s) (hw' : s < w + 4) :
    sendP (F := F) r c w ⊢ reached ER (sendCell r c s) (s / 4) := by
  refine BIBase.Entails.trans (bigSep_elim (Φ := fun t => iprop(atPos ER (sendCell r c t) (t / 4) ∅ 0 ∗ reached ER (sendCell r c t) (t / 4)))
    (Finset.mem_Ico.mpr ⟨hw, hw'⟩)) ?_
  iintro ⟨-, H⟩; iexact H

/-- Step `s`'s copy, to the slot its receiver has released. -/
theorem wp_sendStep (c d : Dev nD) (r : Bool) (s w : ℕ) (hs : s < 62) (hw : w ≤ s) (hw' : s < w + 4) (hd : d = nx r c) (Y : Tallies)
    (K : PG F) (Q : PUnit → sProp 𝕄) :
    iprop(env A ∗ sendT r c s ∗ sendC r c w s ∗ sendP r c w ∗ released ES ((nx r c, r, s) : Key) 1
        ∗ chunkAt c r (ck r c s) (val A r s c) ∗ ow c (owedS r c s + Y))
      ⊢ iprop(((sendT r c (s + 1) ∗ sendC r c w (s + 1) ∗ sendP r c w ∗ ow c (owedS r c (s + 1) + Y)) -∗ Runs c K Q)
        -∗ Runs c (send (printed c) d r s K) Q) := by
  subst hd
  unfold send sendT sendC ow
  rw [bigSep_Ico_succ_bot hs, bigSep_Ico_succ_top hw]
  iintro ⟨#He, ⟨⟨Ht1, Ht2, Hw⟩, Hts⟩, Hcs, HP, #Hrel, Hsrc, %W, HO⟩ Hk
  ihave #HI1 := (env_cell A (mem_send r c s)) $$ He
  icases HI1 with ⟨%κ₁, #HI1⟩
  ihave #HI2 := (env_cell A (mem_recv r (nx r c) s)) $$ He
  icases HI2 with ⟨%κ₂, #HI2⟩
  ihave #HI3 := (env_slot A (mem_key (nx r c) r hs)) $$ He
  icases HI3 with ⟨%κ₃, #HI3⟩
  imod (slot_take ES (Set.mem_univ κ₃) 1) $$ [Hw] with Hfree
  · isplitr; · iexact HI3
    isplitr; · iexact Hrel
    iexact Hw
  ihave #HrS := (sendP_reached c r hw hw') $$ HP
  unfold free dstAt chunkAt owns
  dsimp only
  icases Hfree with ⟨⟨%X0, %fd, %hfd, Hdst⟩, #HrV⟩
  icases Hsrc with ⟨%fs, %hfs, Hsrc⟩
  have key : ∀ (src dst : Memref sig .tc .vmem S128x1024 .f32) (e₁ : src = chV r (ck r c s)) (e₂ : dst = dstV r (nx r c) s)
      (hsem : DmaTarget.Typed .vmem (.dma (semAt (recvA r) s)) (.remote (Dev.tc (nx r c) : Thread nD τ) dst (.dma (semAt (sendA r) s)))),
      iprop(cellInv ER (sched A) κ₁ (sendCell r c s) ∗ cellInv ER (sched A) κ₂ (recvCell r (nx r c) s)
        ∗ ((chV r (ck r c s)).view.loc (c : Thread nD τ) ↦[(chV r (ck r c s)).view.set]{fullShare} fs)
        ∗ ((dstV r (nx r c) s).view.loc (nx r c : Thread nD τ) ↦[(dstV r (nx r c) s).view.set]{fullShare} fd)
        ∗ owes (c : Thread nD τ) (owedS r c s + Y) W
        ∗ dutyTok ER (sendCell r c s) (s / 4) 0 ∗ reached ER (sendCell r c s) (s / 4)
        ∗ dutyTok ER (recvCell r (nx r c) s) (s / 4) 0 ∗ reached ER (recvCell r (nx r c) s) (s / 4))
      ⊢ iprop(((cred (tallyAt (sendCell r c s) s NN) ∗ owes (c : Thread nD τ) (owedS r c (s + 1) + Y) W) -∗ Runs c K Q)
          -∗ Runs c (.op (.enqueueDma src (.remote (Dev.tc (nx r c) : Thread nD τ) dst (.dma (semAt (sendA r) s))) (.dma (semAt (recvA r) s)) (wx _) (wx _) hsem) fun _ => K) Q) := by
    intro src dst e₁ e₂ hsem
    subst e₁ e₂
    refine Rounds.wp_send_pointsTo (sp := .vmem) (sp' := .vmem) (s := S128x1024) (e := .f32) (src := chV r (ck r c s)) (dst := dstV r (nx r c) s)
      (sS := .dma (semAt (sendA r) s)) (sem := .dma (semAt (recvA r) s)) (c' := (nx r c : Thread nD τ)) (q := fullShare) (k := fun _ => K) 𝒱₀ ER (sched A) (c : Thread nD τ) none (κ₁ := κ₁) (κ₂ := κ₂)
      (r₁ := s / 4) (r₂ := s / 4) (d₁ := 0) (d₂ := 0) (fd := fd) (fs := fs) (W := W) (O₀ := owedS r c s + Y)
      ?_ ?_ s s NN ?_ (amount_send A c r s _ _) (amount_recv A (nx r c) r s _ _) (owedS r c (s + 1) + Y) ?_ ?_ ?_
    · rw [duties_send A c r hs]; exact Finset.mem_singleton_self _
    · rw [duties_recv A (nx r c) r hs]; exact Finset.mem_singleton_self _
    · rw [View.amount_dma]; exact dstV_credit r (nx r c) s
    · rw [owedS_step r c hs, add_right_comm]
    · rw [payload_send]; unfold chunkAt owns; iintro H; iexists fs; isplitr; · ipureintro; exact hfs
      iexact H
    · rw [payload_recv, pr_nx]; unfold dstAt owns; iintro H; iexists _; isplitr; rotate_left; · iexact H
      ipureintro; rw [View.read_write_univ]; exact hfs
  iapply (key _ _ (sndV_eq c r s hs) (dst_eq c r s hs) _) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact HrS
    isplitl [Ht2]; · iexact Ht2
    iexact HrV
  iintro ⟨Hc, HO⟩
  iapply Hk
  isplitl [Hts]; · iexact Hts
  isplitl [Hc Hcs]; · isplitl [Hc] <;> iassumption
  isplitl [HP]; · iexact HP
  iexists W; iexact HO

end Cert.RingProof

end
-- ==== Proof.Signals.lean ====
/-
The acknowledgements: a receiver releases a step's destination and tells its sender, and a sender that has taken as many
acknowledgements as it has sent steps may write the next destination.
-/
module

public import proofs.«01_k».proof.Proof.Ops

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (A : Dev nD → Whole F)

local notation "𝕄" => MT nD τ sig ℕ (Elt F) ℕ UU ℕ

/-- A destination has a cell. -/
theorem dstV_nonempty (r : Bool) (c : Dev nD) (s : ℕ) : ((dstV r c s).view.set).Nonempty :=
  ⟨(dstV r c s).view.emb (fun a => ⟨0, by fin_cases a <;> decide⟩), by unfold View.set; exact Finset.mem_map_of_mem _ (Finset.mem_univ _)⟩

/-- A destination is released once. -/
theorem free_free_false (x : Key) : iprop(free (F := F) x ∗ free x) ⊢ (iprop(False) : sProp 𝕄) := by
  have h := slot_slot_false (Val := Elt F) (Ix := ℕ) (Name := ℕ) (U := UU) (Lvl := ℕ)
    (ℓ := (dstV x.2.1 x.1 x.2.2).view.loc (x.1 : Thread nD τ)) (dstV_nonempty x.2.1 x.1 x.2.2)
  unfold free dstAt owns
  iintro ⟨⟨⟨%X, %f, -, Hf⟩, -⟩, ⟨⟨%Y, %g, -, Hg⟩, -⟩⟩
  iapply h
  unfold slot
  isplitl [Hf]
  · iexists f; iexact Hf
  iexists g; iexact Hg

/-- One more destination released. -/
theorem freed_succ (c : Dev nD) (r : Bool) (n : ℕ) :
    (iprop(freed c r n ∗ released ES ((c, r, n) : Key) 1) : sProp 𝕄) ⊢ freed c r (n + 1) := by
  unfold freed
  rw [bigSep_range_succ n]
  iintro ⟨H, H'⟩
  isplitl [H'] <;> iassumption

/-- The destination of step `n` is released. -/
theorem release_step (c : Dev nD) (r : Bool) (n : ℕ) (hn : n < 62) :
    iprop(env A ∗ readerAt ES ((c, r, n) : Key) 0 ∗ free ((c, r, n) : Key) ∗ freed c r n) ⊢ (iprop(|={Set.univ}=> freed c r (n + 1)) : sProp 𝕄) := by
  iintro ⟨#He, Hr, Hf, #Hd⟩
  ihave #HI := (env_slot A (mem_key c r hn)) $$ He
  icases HI with ⟨%κ, #HI⟩
  imod (slot_release ES (Set.mem_univ κ) (free_free_false ((c, r, n) : Key)) 0) $$ [Hr Hf] with ⟨-, #Hn⟩
  · isplitr; · iexact HI
    isplitl [Hr] <;> iassumption
  imodintro
  iapply (freed_succ c r n)
  isplitr <;> iassumption

/-- Step `i`'s acknowledgement, with the destination of step `i + 4`. -/
theorem wp_sigAck (c d : Dev nD) (r : Bool) (i : ℕ) (hi : i < 58) (hd : d = pr r c) (Y : Tallies) (K : PG F) (Q : PUnit → sProp 𝕄) :
    iprop(env A ∗ ackO r c i ∗ free ((c, r, i + 4) : Key) ∗ freed c r (i + 4) ∗ ow c (owedA r c i + Y))
      ⊢ iprop(((ackO r c (i + 1) ∗ freed c r (i + 5) ∗ ow c (owedA r c (i + 1) + Y)) -∗ Runs c K Q) -∗ Runs c (sigAck d r K) Q) := by
  subst hd
  unfold sigAck ackO ow
  rw [bigSep_Ico_succ_bot hi, bigSep_Ico_succ_bot (show i + 4 < 62 by omega)]
  iintro ⟨#He, ⟨⟨Ht, Hts⟩, Hr, Hrs⟩, Hf, #Hd, %W, HO⟩ Hk
  iapply fupd_wp
  imod (release_step A c r (i + 4) (by omega)) $$ [Hr Hf] with #Hn
  · isplitr; · iexact He
    isplitl [Hr]; · iexact Hr
    isplitl [Hf] <;> iassumption
  imodintro
  ihave #HI := (env_cell A (mem_ack r (pr r c))) $$ He
  icases HI with ⟨%κ, #HI⟩
  ihave #H0 := (env_reached A (mem_ack r (pr r c))) $$ He
  iapply (Rounds.wp_signal 𝒱₀ ER (sched A) (c : Thread nD τ) none (dst := (pr r c : Thread nD τ)) (κ := κ)
      (d := i) (by rw [duties_ack]; exact Finset.mem_range.mpr hi) (amount_ack A (pr r c) r 0 i) i (O₀ := owedA r c i + Y) (owedA r c (i + 1) + Y)
      (by rw [owedA_step r c hi, add_right_comm])) $$ [HO Ht]
  · isplitr; · iexact HI
    isplitl [HO]; · iexact HO
    isplitl [Ht]; · iexact Ht
    isplitr; · rw [payload_ack, nx_pr]; iexact Hn
    iexact H0
  iintro HO
  iapply Hk
  isplitl [Hts Hrs]
  · isplitl [Hts]; · iexact Hts
    iexact Hrs
  isplitr; · iexact Hn
  iexists W; iexact HO

/-- Of more than `k` acknowledgements, whichever they are, one at least covers the destination of step `k + 4`. -/
theorem freed_of_pays (c : Dev nD) (r : Bool) {S : Finset ℕ} {k : ℕ} (hS : k < S.card) :
    (bigSep S fun d => freed (F := F) (nx r c) r (d + 5)) ⊢ released ES ((nx r c, r, k + 4) : Key) 1 := by
  obtain ⟨d, hd, hk⟩ : ∃ d ∈ S, k ≤ d := by
    by_contra h
    push Not at h
    have := Finset.card_le_card (show S ⊆ Finset.range k from fun d hd => Finset.mem_range.mpr (h d hd))
    rw [Finset.card_range] at this; omega
  exact BIBase.Entails.trans (bigSep_elim (Φ := fun d => freed (F := F) (nx r c) r (d + 5)) hd) (freed_at (by omega))

/-- The `k`-th acknowledgement taken: the receiver has released the destination of step `k + 4`. -/
theorem wp_waitAck (c : Dev nD) (r : Bool) (k : ℕ) (hk : k < 58) (O : Tallies) (hO : Above (2 * k + 3) O) (K : PG F) (Q : PUnit → sProp 𝕄) :
    iprop(env A ∗ ackI r c k ∗ ow c O)
      ⊢ iprop(((ackI r c (k + 1) ∗ released ES ((nx r c, r, k + 4) : Key) 1 ∗ ow c O) -∗ Runs c K Q) -∗ Runs c (waitAck r K) Q) := by
  unfold waitAck ackI ow
  rw [bigSep_Ico_succ_bot hk]
  iintro ⟨#He, ⟨⟨Hc, Hcs⟩, %T, %hT, Hat, #Hp⟩, %W, HO⟩ Hk
  ihave #HI := (env_cell A (mem_ack r c)) $$ He
  icases HI with ⟨%κ, #HI⟩
  iapply (Rounds.wp_wait 𝒱₀ ER (sched A) (c : Thread nD τ) none (κ := κ) (k' := 1)
      (wpE_semWait_eq 𝒱₀ (c : Thread nD τ) none Set.univ) (Set.mem_univ _) (cr := Finsupp.single k 1) (O := O) (W := W)
      {((SemLoc.reg (ackS r) : SemLoc sig), k)} (R := 0) (m := k) (T := T) (Util.total_single _ _) (image_single_subset _ k 1)) $$ [Hc HO Hat]
  · isplitr; · iexact HI
    isplitl [Hc]; · iexact Hc
    isplitl [HO]; · iexact HO
    isplitr
    · iapply (env_mayWait (F := F) A c (SemLoc.reg (ackS r)) k O (2 * k + 3) (by omega) (lv_ack c r k) hO); iexact He
    iexact Hat
  iintro %S ⟨%hS, HO, Hat, Hpay⟩
  obtain ⟨hTS, hSd, hcard⟩ := hS
  rw [duties_ack] at hSd hcard
  rw [expect_ack, Finset.card_sdiff_of_subset hSd, Finset.card_range] at hcard
  have hc58 := Finset.card_le_card hSd
  rw [Finset.card_range] at hc58
  have hSk : k < S.card := by omega
  ihave #Hall := (show (iprop((bigSep T fun d => freed (F := F) (nx r c) r (d + 5)) ∗ bigSep (S \ T) fun d => (sched A).payload (ackCell r c) 0 d) : sProp 𝕄)
      ⊢ bigSep S fun d => freed (F := F) (nx r c) r (d + 5) by
    rw [bigSep_sdiff_split hTS, bigSep_congr (s := S \ T) (fun d _ => payload_ack A c r 0 d)]
    iintro H; iexact H) $$ [Hpay]
  · isplitr; · iexact Hp
    iexact Hpay
  iapply Hk
  isplitl [Hcs Hat]
  · isplitl [Hcs]; · iexact Hcs
    iexists S
    isplitr; · ipureintro; exact ⟨hSd, hSk⟩
    isplitl [Hat]; · iexact Hat
    iexact Hall
  isplitr; · iapply (freed_of_pays c r hSk); iexact Hall
  iexists _; iexact HO

end Cert.RingProof

end
-- ==== Proof.Steps.lean ====
/-
The steps of a ring: what a device holds before step `s`, and that each half of the step keeps it.
-/
module

public import proofs.«01_k».proof.Proof.Signals

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (A : Dev nD → Whole F)

local notation "𝕄" => MT nD τ sig ℕ (Elt F) ℕ UU ℕ

/-! ## The chunks and slots a device holds -/

/-- The chunks not yet reached, from place `n` on, holding the device's own product. -/
def fresh (r : Bool) (c : Dev nD) (n : ℕ) : sProp 𝕄 := bigSep (Finset.Ico n 32) fun t => chunkAt c r (ck r c t) (part A r c t)
/-- The chunks sent at steps `a` to `b`, their copies over. -/
def sent (r : Bool) (c : Dev nD) (a b : ℕ) : sProp 𝕄 := bigSep (Finset.Ico a b) fun t => chunkAt c r (ck r c t) (val A r t c)
/-- The slots that are not released again. -/
def kept (r : Bool) (c : Dev nD) (n : ℕ) : sProp 𝕄 := bigSep (Finset.Ico 27 n) fun t => iprop(∃ X, slotAt (F := F) c r t X)
/-- The slot step `s` arrived in, if it arrived in one. -/
def arrived (r : Bool) (c : Dev nD) (s : ℕ) : sProp 𝕄 := if s < 31 then iprop(∃ X, slotAt (F := F) c r s X) else iprop(emp)

/-- How many acknowledgements and sends have been waited for before step `s`. -/
abbrev done (s : ℕ) : ℕ := min (s - 3) 58
/-- How many sent chunks have been released as destinations before step `s`. -/
abbrev given (s : ℕ) : ℕ := min (s - 27) 31

/-- Equal debts may stand for each other. -/
theorem ow_congr (c : Dev nD) {O O' : Tallies} (h : O = O') : (ow c O : sProp 𝕄) ⊢ ow c O' := by subst h; iintro H; iexact H

/-- A slot that was read is a free destination for the step four later, -/
theorem dst_slot_intro (c : Dev nD) (r : Bool) {s : ℕ} (h : s < 27) (X : Chunk F) :
    iprop(slotAt c r s X ∗ reached ER (recvCell r c (s + 4)) ((s + 4) / 4)) ⊢ free ((c, r, s + 4) : Key) := by
  unfold free
  iintro ⟨H, Hr⟩
  isplitl [H]
  · iexists X
    rw [dstAt_slot c r (show s + 4 < 31 by omega)]
    unfold slotAt
    rw [slotV_congr r (Nat.add_mod_right s 4)]
    iexact H
  iexact Hr

/-- and so, later on, is a chunk of the output whose copy has left. -/
theorem dst_chunk_intro (c : Dev nD) (r : Bool) {s : ℕ} (h : 27 ≤ s) (X : Chunk F) :
    iprop(chunkAt c r (ck r c (s - 27)) X ∗ reached ER (recvCell r c (s + 4)) ((s + 4) / 4)) ⊢ free ((c, r, s + 4) : Key) := by
  unfold free
  iintro ⟨H, Hr⟩
  isplitl [H]
  · iexists X
    rw [dstAt_chunk c r (show ¬ s + 4 < 31 by omega), show s + 4 + 1 = (s - 27) + 32 by omega, ck_add]
    iexact H
  iexact Hr

/-- The destination that step `s`'s acknowledgement releases: the slot just read, or the oldest chunk sent. -/
theorem free_intro (c : Dev nD) (r : Bool) (s : ℕ) (hs : s < 58) :
    iprop(arrived (F := F) r c s ∗ reached ER (recvCell r c (s + 4)) ((s + 4) / 4) ∗ sent A r c (given s) (done s) ∗ kept (F := F) r c (min s 31))
      ⊢ iprop(free ((c, r, s + 4) : Key) ∗ sent A r c (given (s + 1)) (done s) ∗ kept (F := F) r c (min (s + 1) 31)) := by
  unfold arrived sent kept given done
  rcases Nat.lt_or_ge s 27 with h | h
  · rw [if_pos (by omega), show min (s + 1 - 27) 31 = min (s - 27) 31 by omega, Finset.Ico_eq_empty_of_le (show min s 31 ≤ 27 by omega),
      Finset.Ico_eq_empty_of_le (show min (s + 1) 31 ≤ 27 by omega)]
    iintro ⟨⟨%X, H⟩, Hr, Hs, He⟩
    isplitl [H Hr]
    · iapply (dst_slot_intro c r h X); isplitl [H] <;> iassumption
    isplitl [Hs] <;> iassumption
  · rw [show min (s - 27) 31 = s - 27 by omega, show min (s + 1 - 27) 31 = s - 27 + 1 by omega, show min (s - 3) 58 = s - 3 by omega,
      bigSep_Ico_succ_bot (show s - 27 < s - 3 by omega)]
    rcases Nat.lt_or_ge s 31 with h' | h'
    · rw [if_pos h', show min s 31 = s by omega, show min (s + 1) 31 = s + 1 by omega, bigSep_Ico_succ_top (show 27 ≤ s from h)]
      iintro ⟨Ha, Hr, ⟨H, Hs⟩, He⟩
      isplitl [H Hr]
      · iapply (dst_chunk_intro c r h _); isplitl [H] <;> iassumption
      isplitl [Hs]; · iexact Hs
      isplitl [Ha] <;> iassumption
    · rw [if_neg (by omega), show min s 31 = 31 by omega, show min (s + 1) 31 = 31 by omega]
      iintro ⟨-, Hr, ⟨H, Hs⟩, He⟩
      isplitl [H Hr]
      · iapply (dst_chunk_intro c r h _); isplitl [H] <;> iassumption
      isplitl [Hs] <;> iassumption

/-! ## Before a step, and between its halves -/

/-- What a device holds of ring `r` before step `s`. -/
def Before (r : Bool) (c : Dev nD) (s : ℕ) : sProp 𝕄 :=
  iprop(recvB r c s ∗ sendT r c (s + 1) ∗ sendC r c (done s) (min (s + 1) 62) ∗ sendP r c (done s) ∗ ackO r c (min s 58)
    ∗ freed c r (min s 58 + 4) ∗ freed (nx r c) r 4 ∗ ackI r c (done s)
    ∗ fresh A r c (s + 1) ∗ sent A r c (given s) (done s) ∗ kept r c (min s 31))

/-- What it holds between receiving at step `s` and sending: besides, the chunk to be sent next. -/
def Between (r : Bool) (c : Dev nD) (s : ℕ) : sProp 𝕄 :=
  iprop(recvB r c (s + 1) ∗ sendT r c (s + 1) ∗ sendC r c (done s) (s + 1) ∗ sendP r c (done s) ∗ ackO r c (min (s + 1) 58)
    ∗ freed c r (min (s + 1) 58 + 4) ∗ freed (nx r c) r 4 ∗ ackI r c (done s)
    ∗ fresh A r c (s + 2) ∗ sent A r c (given (s + 1)) (done s) ∗ kept r c (min (s + 1) 31)
    ∗ chunkAt c r (ck r c (s + 1)) (val A r (s + 1) c))

/-- What is sent next in the first half: the own product plus what arrived, -/
theorem val_acc (r : Bool) (s : ℕ) (c : Dev nD) (h : s < 30) :
    val A r (s + 1) c = (addf (part A r c (s + 1)) (val A r s (pr r c)) : FVec F S128x1024 .f32) := by
  show (if s < 30 then _ else _) = _
  rw [if_pos h]
/-- at place 31 the same cut below at zero, -/
theorem val_relu (r : Bool) (c : Dev nD) :
    val A r 31 c = reluP (addf (part A r c 31) (val A r 30 (pr r c)) : FVec F S128x1024 .f32) := by
  show (if 30 < 30 then _ else _) = _
  rw [if_neg (by omega), if_pos rfl]
/-- and after that what arrived. -/
theorem val_pass (r : Bool) (s : ℕ) (c : Dev nD) (h : 31 ≤ s) : val A r (s + 1) c = val A r s (pr r c) := by
  show (if s < 30 then _ else _) = _
  rw [if_neg (by omega), if_neg (by omega)]

/-- What arrived is taken: added to the device's own chunk, or already the chunk to pass on. -/
theorem wp_take (c : Dev nD) (r : Bool) (s : ℕ) (hs : s < 62) (K : PG F) (Q : PUnit → sProp 𝕄) :
    iprop(dstAt c r s (val A r s (pr r c)) ∗ fresh A r c (s + 1))
      ⊢ iprop(((arrived r c s ∗ fresh A r c (s + 2) ∗ chunkAt c r (ck r c (s + 1)) (val A r (s + 1) c)) -∗ Runs c K Q)
        -∗ Runs c (if s < 31 then accum ((printed c).rcv r s) ((printed c).rcv_in r s) r s
            ((fun k => if s = 30 then relu ((printed c).rcv r s) ((printed c).rcv_in r s) k else k) K) else K) Q) := by
  unfold fresh arrived
  rcases Nat.lt_or_ge s 31 with h | h
  · rw [if_pos h, if_pos h, dstAt_slot c r h, bigSep_Ico_succ_bot (show s + 1 < 32 by omega)]
    iintro ⟨Hd, Hf, Hfs⟩ Hk
    iapply (wp_accum c r s (ck r c (s + 1)) ((printed c).rcv_in r s) (rcv_eq c r s h) (part A r c (s + 1)) (val A r s (pr r c))) $$ [Hf Hd]
    · isplitl [Hf] <;> iassumption
    iintro ⟨Hf, Hd⟩
    dsimp only
    by_cases h30 : s = 30
    · subst h30
      rw [if_pos rfl]
      iapply (wp_relu c r (ck r c 31) ((printed c).rcv_in r 30) (rcv_eq c r 30 h)) $$ Hf
      iintro Hf
      iapply Hk
      isplitl [Hd]; · iexists _; iexact Hd
      isplitl [Hfs]; · iexact Hfs
      rw [val_relu A r c]; iexact Hf
    · rw [if_neg h30]
      iapply Hk
      isplitl [Hd]; · iexists _; iexact Hd
      isplitl [Hfs]; · iexact Hfs
      rw [val_acc A r s c (by omega)]; iexact Hf
  · rw [if_neg (by omega), if_neg (by omega), dstAt_chunk c r (show ¬ s < 31 by omega), Finset.Ico_eq_empty_of_le (show 32 ≤ s + 1 by omega),
      Finset.Ico_eq_empty_of_le (show 32 ≤ s + 2 by omega), val_pass A r s c h]
    iintro ⟨Hd, Hf⟩ Hk
    iapply Hk
    isplitr; · iempintro
    isplitl [Hf] <;> iassumption

/-- The step's acknowledgement, if it has one. -/
theorem wp_give (c : Dev nD) (r : Bool) (s : ℕ) (hs : s < 62) (Y : Tallies) (K : PG F) (Q : PUnit → sProp 𝕄) :
    iprop(env A ∗ arrived r c s ∗ reached ER (recvCell r c (s + 4)) ((s + 4) / 4) ∗ sent A r c (given s) (done s) ∗ kept r c (min s 31)
        ∗ ackO r c (min s 58) ∗ freed c r (min s 58 + 4) ∗ ow c (owedA r c s + Y))
      ⊢ iprop(((sent A r c (given (s + 1)) (done s) ∗ kept r c (min (s + 1) 31) ∗ ackO r c (min (s + 1) 58) ∗ freed c r (min (s + 1) 58 + 4)
          ∗ ow c (owedA r c (s + 1) + Y)) -∗ Runs c K Q)
        -∗ Runs c (if s < 58 then sigAck ((printed c).dev (ackIx r s)) r K else K) Q) := by
  rcases Nat.lt_or_ge s 58 with h | h
  · rw [if_pos h, show min s 58 = s by omega, show min (s + 1) 58 = s + 1 by omega]
    iintro ⟨#He, Ha, Hr, Hs, Hk, HA, #Hf, HO⟩ HK
    ihave ⟨Hfree, Hs, Hk⟩ := (free_intro A c r s h) $$ [Ha Hr Hs Hk]
    · isplitl [Ha]; · iexact Ha
      isplitl [Hr]; · iexact Hr
      isplitl [Hs] <;> iassumption
    iapply (wp_sigAck A c _ r s h (dev_ack c r s h) Y) $$ [HA Hfree HO]
    · isplitr; · iexact He
      isplitl [HA]; · iexact HA
      isplitl [Hfree]; · iexact Hfree
      isplitr; · iexact Hf
      iexact HO
    iintro ⟨HA, #Hf', HO⟩
    iapply HK
    isplitl [Hs]; · iexact Hs
    isplitl [Hk]; · iexact Hk
    isplitl [HA]; · iexact HA
    isplitr; · iexact Hf'
    iexact HO
  · rw [if_neg (by omega), show min s 58 = 58 by omega, show min (s + 1) 58 = 58 by omega, show given (s + 1) = given s by unfold given; omega,
      show min (s + 1) 31 = min s 31 by omega, owedA_end r c h, owedA_end r c (show 58 ≤ s + 1 by omega)]
    iintro ⟨#He, Ha, Hr, Hs, Hk, HA, #Hf, HO⟩ HK
    iapply HK
    isplitl [Hs]; · iexact Hs
    isplitl [Hk]; · iexact Hk
    isplitl [HA]; · iexact HA
    isplitr; · iexact Hf
    iexact HO

/-- The first half of step `s`. -/
theorem wp_stepRecv (c : Dev nD) (r : Bool) (s : ℕ) (hs : s < 62) (Y : Tallies) (hY : Above (2 * s + 2) Y) (K : PG F) (Q : PUnit → sProp 𝕄) :
    iprop(env A ∗ Before A r c s ∗ ow c (owedS r c (s + 1) + owedA r c s + Y))
      ⊢ iprop(((Between A r c s ∗ ow c (owedS r c (s + 1) + owedA r c (s + 1) + Y)) -∗ Runs c K Q) -∗ Runs c (stepRecv (printed c) r s K) Q) := by
  have hO : Above (2 * s + 2) (owedS r c (s + 1) + owedA r c s + Y) :=
    above_add (above_add (above_owedS r c (by omega)) (above_owedA r c (by omega))) hY
  unfold Before Between stepRecv
  rw [show min (s + 1) 62 = s + 1 by omega]
  iintro ⟨#He, ⟨HR, HT, HC, HP, HA, #Hf, #Hf4, HI, Hfr, Hs, Hk⟩, HO⟩ HK
  iapply (wp_waitRecv A (printed c) c r s hs _ hO) $$ [HR HO]
  · isplitr; · iexact He
    isplitl [HR] <;> iassumption
  iintro ⟨HR, #Hr, Hd, HO⟩
  iapply (wp_take A c r s hs) $$ [Hd Hfr]
  · isplitl [Hd] <;> iassumption
  iintro ⟨Ha, Hfr, Hc⟩
  ihave HO := (ow_congr c ((add_assoc (owedS r c (s + 1)) (owedA r c s) Y).trans (add_left_comm _ _ _))) $$ HO
  iapply (wp_give A c r s hs (owedS r c (s + 1) + Y)) $$ [Ha Hs Hk HA HO]
  · isplitr; · iexact He
    isplitl [Ha]; · iexact Ha
    isplitr; · iexact Hr
    isplitl [Hs]; · iexact Hs
    isplitl [Hk]; · iexact Hk
    isplitl [HA]; · iexact HA
    isplitr; · iexact Hf
    iexact HO
  iintro ⟨Hs, Hk, HA, #Hf', HO⟩
  ihave HO := (ow_congr c ((add_left_comm _ _ _).trans (add_assoc (owedS r c (s + 1)) (owedA r c (s + 1)) Y).symm)) $$ HO
  iapply HK
  isplitr [HO]; rotate_left; · iexact HO
  isplitl [HR]; · iexact HR
  isplitl [HT]; · iexact HT
  isplitl [HC]; · iexact HC
  isplitl [HP]; · iexact HP
  isplitl [HA]; · iexact HA
  isplitr; · iexact Hf'
  isplitr; · iexact Hf4
  isplitl [HI]; · iexact HI
  isplitl [Hfr]; · iexact Hfr
  isplitl [Hs]; · iexact Hs
  isplitl [Hk] <;> iassumption

/-- The waits before the send of step `s + 1`: from step 3 on, an acknowledgement and the send of step `s - 3`. -/
theorem wp_waits (c : Dev nD) (r : Bool) (s : ℕ) (hs : s < 61) (O : Tallies) (hO : Above (2 * s) O) (K : PG F) (Q : PUnit → sProp 𝕄) :
    iprop(env A ∗ sendC r c (done s) (s + 1) ∗ sendP r c (done s) ∗ freed (nx r c) r 4 ∗ ackI r c (done s) ∗ sent A r c (given (s + 1)) (done s) ∗ ow c O)
      ⊢ iprop(((sendC r c (done (s + 1)) (s + 1) ∗ sendP r c (done (s + 1)) ∗ released ES ((nx r c, r, s + 1) : Key) 1 ∗ ackI r c (done (s + 1))
          ∗ sent A r c (given (s + 1)) (done (s + 1)) ∗ ow c O) -∗ Runs c K Q)
        -∗ Runs c ((fun k => if 3 ≤ s then waitAck r (waitSend (printed c) r (s - 3) k) else k) K) Q) := by
  dsimp only
  by_cases h : 3 ≤ s
  · rw [if_pos h, show done s = s - 3 by unfold done; omega, show done (s + 1) = s - 3 + 1 by unfold done; omega]
    iintro ⟨#He, HC, HP, #Hf4, HI, Hs, HO⟩ HK
    iapply (wp_waitAck A c r (s - 3) (by omega) O (fun g i h' => ⟨(hO g i h').1, by have := (hO g i h').2; omega⟩)) $$ [HI HO]
    · isplitr; · iexact He
      isplitl [HI] <;> iassumption
    rw [show s - 3 + 4 = s + 1 by omega]
    iintro ⟨HI, #Hrel, HO⟩
    iapply (wp_waitSend A (printed c) c r (s - 3) (s + 1) (by omega) (by omega) O (fun g i h' => ⟨(hO g i h').1, by have := (hO g i h').2; omega⟩)) $$ [HC HP HO]
    · isplitr; · iexact He
      isplitl [HC]; · iexact HC
      isplitl [HP] <;> iassumption
    iintro ⟨HC, HP, Hc, HO⟩
    iapply HK
    isplitl [HC]; · iexact HC
    isplitl [HP]; · iexact HP
    isplitr; · iexact Hrel
    isplitl [HI]; · iexact HI
    isplitl [Hs Hc]
    · unfold sent
      rw [bigSep_Ico_succ_top (show given (s + 1) ≤ s - 3 by unfold given; omega)]
      isplitl [Hc] <;> iassumption
    iexact HO
  · rw [if_neg h, show done s = 0 by unfold done; omega, show done (s + 1) = 0 by unfold done; omega]
    iintro ⟨#He, HC, HP, #Hf4, HI, Hs, HO⟩ HK
    iapply HK
    isplitl [HC]; · iexact HC
    isplitl [HP]; · iexact HP
    isplitr; · iapply (freed_at (show s + 1 < 4 by omega)); iexact Hf4
    isplitl [HI]; · iexact HI
    isplitl [Hs] <;> iassumption

/-- What is left over when the last step has received: the chunk that is not sent on. -/
def last (r : Bool) (c : Dev nD) (s : ℕ) : sProp 𝕄 := if s < 61 then iprop(emp) else chunkAt c r (ck r c 62) (val A r 62 c)

/-- The second half of step `s`. -/
theorem wp_stepSend (c : Dev nD) (r : Bool) (s : ℕ) (hs : s < 62) (Y : Tallies) (hY : Above (2 * s) Y) (K : PG F) (Q : PUnit → sProp 𝕄) :
    iprop(env A ∗ Between A r c s ∗ ow c (owedS r c (s + 1) + owedA r c (s + 1) + Y))
      ⊢ iprop(((Before A r c (s + 1) ∗ last A r c s ∗ ow c (owedS r c (s + 2) + owedA r c (s + 1) + Y)) -∗ Runs c K Q)
        -∗ Runs c (stepSend (printed c) r s K) Q) := by
  unfold Before Between stepSend last
  by_cases h : s < 61
  · have hO : Above (2 * s) (owedS r c (s + 1) + owedA r c (s + 1) + Y) :=
      above_add (above_add (above_owedS r c (by omega)) (above_owedA r c (by omega))) hY
    rw [if_pos h, if_pos h, show min (s + 1 + 1) 62 = s + 2 by omega]
    iintro ⟨#He, ⟨HR, HT, HC, HP, HA, #Hf, #Hf4, HI, Hfr, Hs, Hk, Hc⟩, HO⟩ HK
    iapply (wp_waits A c r s h _ hO) $$ [HC HP HI Hs HO]
    · isplitr; · iexact He
      isplitl [HC]; · iexact HC
      isplitl [HP]; · iexact HP
      isplitr; · iexact Hf4
      isplitl [HI]; · iexact HI
      isplitl [Hs] <;> iassumption
    iintro ⟨HC, HP, #Hrel, HI, Hs, HO⟩
    ihave HO := (ow_congr c (add_assoc (owedS r c (s + 1)) (owedA r c (s + 1)) Y)) $$ HO
    iapply (wp_sendStep A c _ r (s + 1) (done (s + 1)) (by omega) (by unfold done; omega) (by unfold done; omega) (dev_snd c r (s + 1) (by omega))
      (owedA r c (s + 1) + Y)) $$ [HT HC HP Hc HO]
    · isplitr; · iexact He
      isplitl [HT]; · iexact HT
      isplitl [HC]; · iexact HC
      isplitl [HP]; · iexact HP
      isplitr; · iexact Hrel
      isplitl [Hc] <;> iassumption
    iintro ⟨HT, HC, HP, HO⟩
    ihave HO := (ow_congr c (add_assoc (owedS r c (s + 2)) (owedA r c (s + 1)) Y).symm) $$ HO
    iapply HK
    isplitr [HO]; rotate_left
    · isplitr; · iempintro
      iexact HO
    isplitl [HR]; · iexact HR
    isplitl [HT]; · iexact HT
    isplitl [HC]; · iexact HC
    isplitl [HP]; · iexact HP
    isplitl [HA]; · iexact HA
    isplitr; · iexact Hf
    isplitr; · iexact Hf4
    isplitl [HI]; · iexact HI
    isplitl [Hfr]; · iexact Hfr
    isplitl [Hs] <;> iassumption
  · obtain rfl : s = 61 := by omega
    rw [if_neg h, if_neg h, owedS_end r c (show 62 ≤ 61 + 1 by omega), owedS_end r c (show 62 ≤ 61 + 2 by omega)]
    unfold sendT
    rw [Finset.Ico_eq_empty_of_le (show 62 ≤ 61 + 1 by omega), Finset.Ico_eq_empty_of_le (show 62 ≤ 61 + 1 + 1 by omega)]
    iintro ⟨#He, ⟨HR, HT, HC, HP, HA, #Hf, #Hf4, HI, Hfr, Hs, Hk, Hc⟩, HO⟩ HK
    iapply HK
    isplitr [Hc HO]; rotate_left
    · isplitl [Hc] <;> iassumption
    isplitl [HR]; · iexact HR
    isplitl [HT]; · iexact HT
    isplitl [HC]; · iexact HC
    isplitl [HP]; · iexact HP
    isplitl [HA]; · iexact HA
    isplitr; · iexact Hf
    isplitr; · iexact Hf4
    isplitl [HI]; · iexact HI
    isplitl [Hfr]; · iexact Hfr
    isplitl [Hs]; · iexact Hs
    iexact Hk

end Cert.RingProof

end
-- ==== Proof.Loop.lean ====
/-
All the steps of both rings, and the last waits.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (A : Dev nD → Whole F)

local notation "𝕄" => MT nD τ sig ℕ (Elt F) ℕ UU ℕ

/-- What ring `r` still owes before step `s`. -/
def debt (r : Bool) (c : Dev nD) (s : ℕ) : Tallies := owedS r c (s + 1) + owedA r c s

/-- What a ring still owes before step `s` lies above the levels of the earlier steps and of `s`'s receive. -/
theorem above_debt (r : Bool) (c : Dev nD) {n s : ℕ} (h : n < 2 * s + 3) : Above n (debt r c s) :=
  above_add (above_owedS r c (by omega)) (above_owedA r c h)

/-- One step of one ring. -/
theorem wp_step (c : Dev nD) (r : Bool) (s : ℕ) (hs : s < 62) (Y : Tallies) (hY : Above (2 * s + 2) Y) (K : PG F) (Q : PUnit → sProp 𝕄) :
    iprop(env A ∗ Before A r c s ∗ ow c (debt r c s + Y))
      ⊢ iprop(((Before A r c (s + 1) ∗ last A r c s ∗ ow c (debt r c (s + 1) + Y)) -∗ Runs c K Q)
        -∗ Runs c (stepRecv (printed c) r s (stepSend (printed c) r s K)) Q) := by
  unfold debt
  iintro ⟨#He, HB, HO⟩ HK
  iapply (wp_stepRecv A c r s hs Y hY) $$ [HB HO]
  · isplitr; · iexact He
    isplitl [HB] <;> iassumption
  iintro ⟨HB, HO⟩
  iapply (wp_stepSend A c r s hs Y (fun g i h => ⟨(hY g i h).1, by have := (hY g i h).2; omega⟩)) $$ [HB HO]
  · isplitr; · iexact He
    isplitl [HB] <;> iassumption
  iexact HK

/-- The last `n` steps of both rings. -/
theorem wp_steps (c : Dev nD) (K : PG F) (Q : PUnit → sProp 𝕄) : ∀ (n s : ℕ), n + s = 62 →
    iprop(env A ∗ Before A false c s ∗ last A false c (s - 1) ∗ Before A true c s ∗ last A true c (s - 1) ∗ ow c (debt false c s + debt true c s))
      ⊢ iprop(((Before A false c 62 ∗ last A false c 61 ∗ Before A true c 62 ∗ last A true c 61 ∗ ow c (debt false c 62 + debt true c 62)) -∗ Runs c K Q)
        -∗ Runs c (steps (printed c) n K) Q)
  | 0, s, h => by
    obtain rfl : s = 62 := by omega
    unfold steps
    iintro ⟨-, H⟩ HK
    iapply HK; iexact H
  | n + 1, s, h => by
    unfold steps
    rw [show 61 - n = s by omega]
    iintro ⟨#He, HF, -, HT, -, HO⟩ HK
    iapply (wp_step A c false s (by omega) (debt true c s) (above_debt true c (by omega))) $$ [HF HO]
    · isplitr; · iexact He
      isplitl [HF] <;> iassumption
    iintro ⟨HF, HLF, HO⟩
    ihave HO := (ow_congr c (add_comm (debt false c (s + 1)) (debt true c s))) $$ HO
    iapply (wp_step A c true s (by omega) (debt false c (s + 1)) (above_debt false c (by omega))) $$ [HT HO]
    · isplitr; · iexact He
      isplitl [HT] <;> iassumption
    iintro ⟨HT, HLT, HO⟩
    ihave HO := (ow_congr c (add_comm (debt true c (s + 1)) (debt false c (s + 1)))) $$ HO
    iapply (wp_steps c K Q n (s + 1) (by omega)) $$ [HF HLF HT HLT HO]
    · isplitr; · iexact He
      isplitl [HF]; · iexact HF
      isplitl [HLF]; · iexact HLF
      isplitl [HT]; · iexact HT
      isplitl [HLT]; · iexact HLT
      iexact HO
    iexact HK

/-- After the last step nothing is owed. -/
theorem debt_end (r : Bool) (c : Dev nD) : debt r c 62 = 0 := by
  unfold debt; rw [owedS_end r c (by omega), owedA_end r c (by omega), add_zero]

/-- What a device holds of ring `r` when it is over: its cells' ends, its chunks of the result and its slots. -/
def After (r : Bool) (c : Dev nD) : sProp 𝕄 :=
  iprop(recvB r c 62 ∗ sendP r c 62 ∗ ackI r c 58 ∗ sent A r c 31 63 ∗ kept r c 31)

/-- The last four waits of a ring. -/
theorem wp_lastWaits (c : Dev nD) (r : Bool) (O : Tallies) (hO : Above 0 O) (K : PG F) (Q : PUnit → sProp 𝕄) :
    iprop(env A ∗ Before A r c 62 ∗ last A r c 61 ∗ ow c O)
      ⊢ iprop(((After A r c ∗ ow c O) -∗ Runs c K Q) -∗ Runs c (lastWaits (printed c) r K) Q) := by
  unfold Before After last lastWaits sendC sendP sent
  rw [show done 62 = 58 by rfl, show given 62 = 31 by rfl, show min (62 + 1) 62 = 62 by rfl, show min 62 31 = 31 by rfl, if_neg (by omega)]
  have e4 (n : ℕ) (Φ : ℕ → sProp 𝕄) : bigSep (Finset.Ico n (n + 4)) Φ = iprop(Φ n ∗ Φ (n + 1) ∗ Φ (n + 2) ∗ Φ (n + 3)) := by
    rw [bigSep_Ico_succ_bot (show n < n + 4 by omega), bigSep_Ico_succ_bot (show n + 1 < n + 4 by omega),
      bigSep_Ico_succ_bot (show n + 1 + 1 < n + 4 by omega), show Finset.Ico (n + 1 + 1 + 1) (n + 4) = {n + 3} from Nat.Ico_succ_singleton (n + 3),
      bigSep_singleton]
  rw [show (62 : ℕ) = 58 + 4 by rfl, e4, e4, e4]
  iintro ⟨#He, ⟨HR, HT, ⟨C0, C1, C2, C3⟩, ⟨⟨P0, -⟩, ⟨P1, -⟩, ⟨P2, -⟩, ⟨P3, -⟩⟩, -, -, -, HI, -, Hs, Hk⟩, HL, HO⟩ HK
  iapply (wp_waitSend1 A (printed c) c r 60 (by omega) O hO) $$ [C2 P2 HO]
  · isplitr; · iexact He
    isplitl [C2]; · iexact C2
    isplitl [P2] <;> iassumption
  iintro ⟨P2, D2, HO⟩
  iapply (wp_waitSend1 A (printed c) c r 61 (by omega) O hO) $$ [C3 P3 HO]
  · isplitr; · iexact He
    isplitl [C3]; · iexact C3
    isplitl [P3] <;> iassumption
  iintro ⟨P3, D3, HO⟩
  iapply (wp_waitSend1 A (printed c) c r 58 (by omega) O hO) $$ [C0 P0 HO]
  · isplitr; · iexact He
    isplitl [C0]; · iexact C0
    isplitl [P0] <;> iassumption
  iintro ⟨P0, D0, HO⟩
  iapply (wp_waitSend1 A (printed c) c r 59 (by omega) O hO) $$ [C1 P1 HO]
  · isplitr; · iexact He
    isplitl [C1]; · iexact C1
    isplitl [P1] <;> iassumption
  iintro ⟨P1, D1, HO⟩
  iapply HK
  isplitr [HO]; rotate_left; · iexact HO
  isplitl [HR]; · iexact HR
  isplitl [P0 P1 P2 P3]
  · isplitl [P0]; · iexact P0
    isplitl [P1]; · iexact P1
    isplitl [P2] <;> iassumption
  isplitl [HI]; · iexact HI
  isplitr [Hk]; rotate_left; · iexact Hk
  rw [bigSep_Ico_succ_top (show 31 ≤ 62 by omega), bigSep_Ico_succ_top (show 31 ≤ 61 by omega), bigSep_Ico_succ_top (show 31 ≤ 60 by omega),
    bigSep_Ico_succ_top (show 31 ≤ 59 by omega), bigSep_Ico_succ_top (show 31 ≤ 58 by omega)]
  isplitl [HL]; · iexact HL
  isplitl [D3]; · iexact D3
  isplitl [D2]; · iexact D2
  isplitl [D1]; · iexact D1
  isplitl [D0] <;> iassumption

end Cert.RingProof

end
-- ==== Proof.Chunks.lean ====
/-
The output as its chunks, and a communication buffer as its four slots.
-/
module

public import proofs.«01_k».proof.Proof.Loop

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (A : Dev nD → Whole F)

local notation "𝕄" => MT nD τ sig ℕ (Elt F) ℕ UU ℕ

/-! ## Contents put together from parts -/

/-- Contents given on each of a family of rectangles that tile a shape are the parts of one. -/
theorem glue {s : Shape} {T V : Type} [Fintype T] [DecidableEq T] (R : T → Rect s) (hd : ∀ t t', t ≠ t' → Disjoint (R t).set (R t').set)
    (hc : (Finset.univ : Finset T).biUnion (fun t => (R t).set) = Finset.univ) (Y : (t : T) → (R t).shape.Idx → V) :
    ∃ X : s.Idx → V, ∀ t j, X ((R t).emb j) = Y t j := by
  have hex : ∀ i : s.Idx, ∃ x : (t : T) × (R t).shape.Idx, (R x.1).emb x.2 = i := fun i => by
    obtain ⟨t, -, hi⟩ := Finset.mem_biUnion.mp (hc.symm ▸ Finset.mem_univ i)
    obtain ⟨j, hj⟩ := (R t).exists_idx_of_mem hi
    exact ⟨⟨t, j⟩, hj⟩
  choose g hg using hex
  refine ⟨fun i => Y (g i).1 (g i).2, fun t j => ?_⟩
  have h := hg ((R t).emb j)
  have ht : (g ((R t).emb j)).1 = t := by
    by_contra hne
    exact Finset.disjoint_left.mp (hd _ _ hne) ((R _).idx_mem (g ((R t).emb j)).2) (by
      rw [show (R _).idx (g ((R t).emb j)).2 = (R t).emb j from h]; exact (R t).idx_mem j)
  dsimp only
  revert h ht
  generalize g ((R t).emb j) = x
  obtain ⟨t', j'⟩ := x
  intro h ht
  dsimp only at h ht ⊢
  subst ht
  rw [(R t').emb.injective h]

/-! ## The output -/

/-- Chunk `x.2` of ring `x.1`, as a rectangle of the output. -/
abbrev outR (x : Bool × Fin 32) : Rect S4096x2048 := chunkR (off x.1 x.2) (off_in x.1 x.2)

/-- Its first row, -/
theorem off_row (r : Bool) (k : Fin 32) : off r k 0 = 128 * k.val := by cases r <;> rfl
/-- and its first column. -/
theorem off_col (r : Bool) (k : Fin 32) : off r k 1 = 1024 * r.toNat := by cases r <;> rfl

/-- Different chunks do not meet, -/
theorem outR_disj (x y : Bool × Fin 32) (h : x ≠ y) : Disjoint (outR x).set (outR y).set := by
  by_cases hr : x.1 = y.1
  · have hk : x.2.val ≠ y.2.val := fun e => h (Prod.ext hr (Fin.ext e))
    refine Rect.unit_disjoint 0 ?_
    rw [off_row, off_row]
    show _ + 128 ≤ _ ∨ _ + 128 ≤ _
    omega
  · refine Rect.unit_disjoint 1 ?_
    rw [off_col, off_col]
    show _ + 1024 ≤ _ ∨ _ + 1024 ≤ _
    revert hr
    cases x.1 <;> cases y.1 <;> simp

/-- and together they are the whole output. -/
theorem outR_cov : (Finset.univ : Finset (Bool × Fin 32)).biUnion (fun x => (outR x).set) = Finset.univ := by
  refine Finset.eq_univ_of_forall fun i => Finset.mem_biUnion.mpr ?_
  have h0 : (i 0).val < 4096 := (i 0).isLt
  have h1 : (i 1).val < 2048 := (i 1).isLt
  refine ⟨(decide (1024 ≤ (i 1).val), ⟨(i 0).val / 128, by omega⟩), Finset.mem_univ _, Rect.mem_set_unit.mpr fun a => ?_⟩
  fin_cases a
  · show off _ _ 0 ≤ (i 0).val ∧ (i 0).val < off _ _ 0 + 128
    rw [off_row]; dsimp only; omega
  · show off _ _ 1 ≤ (i 1).val ∧ (i 1).val < off _ _ 1 + 1024
    rw [off_col]; dsimp only
    by_cases h : 1024 ≤ (i 1).val
    · rw [decide_eq_true h]; simp only [Bool.toNat_true]; omega
    · rw [decide_eq_false h]; simp only [Bool.toNat_false]; omega

/-- A ring's chunks in the order of the steps. -/
theorem ring_chunks (r : Bool) (c : Dev nD) (a : ℕ) (Φ : Fin 32 → sProp 𝕄) :
    bigSep Finset.univ Φ = bigSep (Finset.Ico a (a + 32)) fun t => Φ (ck r c t) := by
  have hinj : ∀ x ∈ Finset.Ico a (a + 32), ∀ y ∈ Finset.Ico a (a + 32), ck r c x = ck r c y → x = y := fun x hx y hy h => by
    have := ck_inj r c h
    rw [Finset.mem_Ico] at hx hy
    omega
  have himg : (Finset.Ico a (a + 32)).image (ck r c) = Finset.univ :=
    Finset.eq_univ_of_card _ (by rw [Finset.card_image_of_injOn hinj, Nat.card_Ico, Fintype.card_fin]; omega)
  rw [← himg]
  exact Finset.fold_image hinj

/-- The output owned whole is its chunks, ring by ring, in the order of the steps. -/
theorem out_split (c : Dev nD) (X : Whole F) (a b : ℕ) :
    (owns (c : Thread nD τ) oM fullShare X : sProp 𝕄)
      ⊢ iprop((bigSep (Finset.Ico a (a + 32)) fun t => chunkAt c false (ck false c t) (fun j => X ((outR (false, ck false c t)).emb j)))
        ∗ bigSep (Finset.Ico b (b + 32)) fun t => chunkAt c true (ck true c t) (fun j => X ((outR (true, ck true c t)).emb j))) := by
  rw [← ring_chunks false c a (fun k => chunkAt c false k (fun j => X ((outR (false, k)).emb j))),
    ← ring_chunks true c b (fun k => chunkAt c true k (fun j => X ((outR (true, k)).emb j)))]
  refine BIBase.Entails.trans (owns_rects (c : Thread nD τ) oM fullShare outR (fun _ _ => rfl) outR_disj outR_cov X) ?_
  rw [bigSep_univ_prod, bigSep_univ_eq_bigSepL [false, true] (by decide) (by decide), bigSepL_cons_cons, bigSepL_singleton]
  exact BI.Entails.refl _
/-- All 64 chunks, from any place on each ring on, make up the output. -/
theorem out_join (c : Dev nD) (X : Whole F) (a b : ℕ) :
    iprop((bigSep (Finset.Ico a (a + 32)) fun t => chunkAt c false (ck false c t) (fun j => X ((outR (false, ck false c t)).emb j)))
        ∗ bigSep (Finset.Ico b (b + 32)) fun t => chunkAt c true (ck true c t) (fun j => X ((outR (true, ck true c t)).emb j)))
      ⊢ (owns (c : Thread nD τ) oM fullShare X : sProp 𝕄) := by
  rw [← ring_chunks false c a (fun k => chunkAt c false k (fun j => X ((outR (false, k)).emb j))),
    ← ring_chunks true c b (fun k => chunkAt c true k (fun j => X ((outR (true, k)).emb j)))]
  refine BIBase.Entails.trans ?_ (owns_of_rects (c : Thread nD τ) oM fullShare outR (fun _ _ => rfl) outR_disj outR_cov X)
  rw [bigSep_univ_prod, bigSep_univ_eq_bigSepL [false, true] (by decide) (by decide), bigSepL_cons_cons, bigSepL_singleton]
  exact BI.Entails.refl _

/-! ## What a ring computes -/

/-- The device that completes chunk `k`. -/
def owner (r : Bool) (k : Fin 32) : Dev nD := ⟨(k.val + (match r with | false => 31 | true => 1)) % 32, Nat.mod_lt _ (by decide)⟩

/-- The chunk at place 31 is completed by the device itself. -/
theorem owner_ck (r : Bool) (c : Dev nD) : owner r (ck r c 31) = c := by
  have := c.isLt; cases r <;> refine Fin.ext ?_ <;> simp only [owner, ck] <;> simp only [nD] at this <;> omega

/-- Every copy passed on at a place from 31 on is the completed chunk. -/
theorem val_done (r : Bool) : ∀ (n : ℕ) (c : Dev nD), val A r (n + 31) c = val A r 31 (owner r (ck r c (n + 31)))
  | 0, c => by rw [Nat.zero_add, owner_ck]
  | n + 1, c => by
    rw [show n + 1 + 31 = (n + 31) + 1 by omega, val_pass A r (n + 31) c (by omega), val_done r n (pr r c), ← ck_nx r (pr r c) (n + 31), nx_pr]

/-- The result, on every device. -/
def result : Whole F := (glue outR outR_disj outR_cov fun x j => val A x.1 31 (owner x.1 x.2) j).choose
/-- The result on a chunk is the chunk as its owner completed it. -/
theorem result_spec (x : Bool × Fin 32) (j : S128x1024.Idx) : result A ((outR x).emb j) = val A x.1 31 (owner x.1 x.2) j :=
  (glue outR outR_disj outR_cov fun x j => val A x.1 31 (owner x.1 x.2) j).choose_spec x j

/-- When both rings are over the output holds the result. -/
theorem result_intro (c : Dev nD) : iprop(sent A false c 31 63 ∗ sent A true c 31 63) ⊢ (owns (c : Thread nD τ) oM fullShare (result A) : sProp 𝕄) := by
  have h (r : Bool) : sent A r c 31 63 = bigSep (Finset.Ico 31 (31 + 32)) fun t => chunkAt c r (ck r c t) (fun j => result A ((outR (r, ck r c t)).emb j)) := by
    unfold sent
    refine bigSep_congr fun t ht => ?_
    have := Finset.mem_Ico.mp ht
    obtain ⟨n, rfl⟩ : ∃ n, t = n + 31 := ⟨t - 31, by omega⟩
    rw [val_done A r n c]
    congr 1
    exact funext fun j => (result_spec A (r, ck r c (n + 31)) j).symm
  rw [h, h]
  exact out_join c (result A) 31 31

/-- The product, chunk by chunk: what the rings start from. -/
theorem fresh_intro (c : Dev nD) : (owns (c : Thread nD τ) oM fullShare (A c) : sProp 𝕄) ⊢ iprop(fresh A false c 0 ∗ fresh A true c 0) :=
  out_split c (A c) 0 0

/-! ## The slots -/

/-- Different slots do not meet, -/
theorem slot_disj (t t' : Fin 4) (h : t ≠ t') : Disjoint (slotR t.val).set (slotR t'.val).set := by
  refine Rect.unit_disjoint 0 ?_
  show t.val % 4 + 1 ≤ t'.val % 4 ∨ t'.val % 4 + 1 ≤ t.val % 4
  have : t.val ≠ t'.val := fun e => h (Fin.ext e)
  omega
/-- and together they are the whole buffer. -/
theorem slot_cov : (Finset.univ : Finset (Fin 4)).biUnion (fun t => (slotR t.val).set) = Finset.univ := by
  refine Finset.eq_univ_of_forall fun i => Finset.mem_biUnion.mpr ?_
  have h0 : (i 0).val < 4 := (i 0).isLt
  refine ⟨⟨(i 0).val, h0⟩, Finset.mem_univ _, Rect.mem_set_unit.mpr fun a => ?_⟩
  fin_cases a
  · show (i 0).val % 4 ≤ (i 0).val ∧ (i 0).val < (i 0).val % 4 + 1
    omega
  · show 0 ≤ (i 1).val ∧ (i 1).val < 0 + 128
    have h1 : (i 1).val < 128 := (i 1).isLt
    omega
  · show 0 ≤ (i 2).val ∧ (i 2).val < 0 + 1024
    have h2 : (i 2).val < 1024 := (i 2).isLt
    omega

/-- A slot as a slice of the buffer, with its leading axis of length 1. -/
abbrev slotSl (r : Bool) (t : ℕ) : Memref sig .tc .vmem S1x128x1024 .f32 := (commM r).slice (slotR t) (fun _ => rfl)

/-- The two views of a slot cover the same cells. -/
theorem slot_set (r : Bool) (t : ℕ) : (slotV r t).view.set = (slotSl r t).view.set := View.set_reshape (slotSl r t).view _

/-- A slot, at its own shape or as a slice of the buffer. -/
theorem slot_eq (c : Dev nD) (r : Bool) (t : ℕ) :
    (iprop(∃ X, slotAt c r t X) : sProp 𝕄) = iprop(∃ X, owns (c : Thread nD τ) (slotSl r t) fullShare X) := by
  have e (f : Buf (Elt F) ((slotSl r t).view.loc (c : Thread nD τ))) :
      (((slotSl r t).view.loc (c : Thread nD τ)) ↦[(slotSl r t).view.set]{fullShare} f : sProp 𝕄)
        = (((slotV r t).view.loc (c : Thread nD τ)) ↦[(slotV r t).view.set]{fullShare} f) :=
    congrArg (fun S => (((slotSl r t).view.loc (c : Thread nD τ)) ↦[S]{fullShare} f : sProp 𝕄)) (slot_set r t).symm
  have h1 : (iprop(∃ X, slotAt c r t X) : sProp 𝕄) ⊢ iprop(∃ X, owns (c : Thread nD τ) (slotSl r t) fullShare X) := by
    unfold slotAt owns
    iintro ⟨%X, %f, -, H⟩
    iexists (slotSl r t).view.read (Elt F) f; iexists f
    isplitr; · ipureintro; exact rfl
    rw [e f]; iexact H
  have h2 : (iprop(∃ X, owns (c : Thread nD τ) (slotSl r t) fullShare X) : sProp 𝕄) ⊢ iprop(∃ X, slotAt c r t X) := by
    unfold slotAt owns
    iintro ⟨%X, %f, -, H⟩
    iexists (slotV r t).view.read (Elt F) f; iexists f
    isplitr; · ipureintro; exact rfl
    rw [← e f]; iexact H
  exact BI.equiv_iff.mp ⟨h1, h2⟩

/-- A communication buffer whole, and as its slots. -/
theorem comm_split (c : Dev nD) (r : Bool) : (iprop(∃ X, owns (c : Thread nD τ) (commM r) fullShare X) : sProp 𝕄)
    ⊢ bigSep Finset.univ fun t : Fin 4 => iprop(∃ X, slotAt (F := F) c r t.val X) := by
  rw [bigSep_congr (fun (t : Fin 4) _ => slot_eq c r t.val)]
  have h (X : S4x128x1024.Idx → Elt F .f32) : (owns (c : Thread nD τ) (commM r) fullShare X : sProp 𝕄)
      ⊢ bigSep Finset.univ fun t : Fin 4 => iprop(∃ X, owns (c : Thread nD τ) (slotSl r t.val) fullShare X) := by
    refine BIBase.Entails.trans (owns_rects (c : Thread nD τ) (commM r) fullShare (fun t : Fin 4 => slotR t.val) (fun _ _ => rfl) slot_disj slot_cov X) ?_
    have hx (t : Fin 4) (Y : S1x128x1024.Idx → Elt F .f32) : (owns (c : Thread nD τ) (slotSl r t.val) fullShare Y : sProp 𝕄)
        ⊢ iprop(∃ X, owns (c : Thread nD τ) (slotSl r t.val) fullShare X) := by
      iintro H; iexists Y; iexact H
    exact bigSep_mono fun t _ => hx t (fun j => X ((slotR t.val).emb j))
  iintro ⟨%X, H⟩
  iapply (h X); iexact H
/-- The four slots make up the buffer again. -/
theorem comm_join (c : Dev nD) (r : Bool) : (bigSep Finset.univ fun t : Fin 4 => iprop(∃ X, slotAt (F := F) c r t.val X))
    ⊢ (iprop(∃ X, owns (c : Thread nD τ) (commM r) fullShare X) : sProp 𝕄) := by
  rw [bigSep_congr (fun (t : Fin 4) _ => slot_eq c r t.val)]
  haveI : Nonempty (S1x128x1024.Idx → Elt F .f32) := ⟨fun _ => Classical.choice (Elt.nonempty F .f32)⟩
  have h (Y : Fin 4 → S1x128x1024.Idx → Elt F .f32) :
      (bigSep Finset.univ fun t : Fin 4 => owns (c : Thread nD τ) (slotSl r t.val) fullShare (Y t) : sProp 𝕄)
        ⊢ iprop(∃ X, owns (c : Thread nD τ) (commM r) fullShare X) := by
    obtain ⟨X, hX⟩ := glue (fun t : Fin 4 => slotR t.val) slot_disj slot_cov (fun t j => Y t j)
    have e : Y = fun t j => X ((slotR t.val).emb j) := funext fun t => funext fun j => (hX t j).symm
    rw [e]
    refine BIBase.Entails.trans (owns_of_rects (c : Thread nD τ) (commM r) fullShare (fun t : Fin 4 => slotR t.val) (fun _ _ => rfl) slot_disj slot_cov X) ?_
    iintro H; iexists X; iexact H
  refine BIBase.Entails.trans (BI.bigSep_exists_pi (Finset.univ : Finset (Fin 4))
    (fun t X => (owns (c : Thread nD τ) (slotSl r t.val) fullShare X : sProp 𝕄))) ?_
  iintro ⟨%Y, H⟩
  iapply (h Y); iexact H

end Cert.RingProof

end
-- ==== Proof.Body.lean ====
/-
One device's body from its entry to its end: the entry handshake, the product, both rings, and the semaphores at zero
again.
-/
module

public import proofs.«01_k».proof.Proof.Chunks

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (A : Dev nD → Whole F)

local notation "𝕄" => MT nD τ sig ℕ (Elt F) ℕ UU ℕ

/-! ## A device's cells, all together and ring by ring -/

/-- Something of each of ring `r`'s copy cells on device `c`. -/
def copyCells (Φ : GSem nD τ sig → sProp 𝕄) (r : Bool) (c : Dev nD) : sProp 𝕄 :=
  iprop((bigSep (Finset.Ico 0 4) fun t => Φ (sendCell r c t)) ∗ bigSep (Finset.Ico 0 4) fun t => Φ (recvCell r c t))

/-- A product over four consecutive steps, written out. -/
theorem four (n : ℕ) (Φ : ℕ → sProp 𝕄) : bigSep (Finset.Ico n (n + 4)) Φ = iprop(Φ n ∗ Φ (n + 1) ∗ Φ (n + 2) ∗ Φ (n + 3)) := by
  rw [bigSep_Ico_succ_bot (show n < n + 4 by omega), bigSep_Ico_succ_bot (show n + 1 < n + 4 by omega),
    bigSep_Ico_succ_bot (show n + 1 + 1 < n + 4 by omega), show Finset.Ico (n + 1 + 1 + 1) (n + 4) = {n + 3} from Nat.Ico_succ_singleton (n + 3),
    bigSep_singleton]

/-- Three things held together, bracketed to the right. -/
theorem sep_flat (P Q R : sProp 𝕄) : iprop((P ∗ Q) ∗ R) = iprop(P ∗ Q ∗ R) := BI.equiv_iff.mp ⟨BI.sep_assoc, BI.sep_assoc'⟩

/-- A device's 19 cells: its two acknowledgement cells, its barrier cell and each ring's eight copy cells. -/
theorem dev_cells (c : Dev nD) (Φ : GSem nD τ sig → sProp 𝕄) :
    (bigSep Finset.univ fun j : Fin 19 => Φ (kcell (c, j)))
      = iprop(Φ (ackCell false c) ∗ Φ (ackCell true c) ∗ Φ (barCell c) ∗ copyCells Φ false c ∗ copyCells Φ true c) := by
  unfold copyCells
  rw [bigSep_univ_eq_bigSepL [0, 1, 2, 3, 4, 5, 6, 7, 8, 9, 10, 11, 12, 13, 14, 15, 16, 17, 18] (by decide) (by decide),
    show (4 : ℕ) = 0 + 4 from rfl, four, four, four, four]
  simp only [bigSepL_cons_cons, bigSepL_singleton, sep_flat]
  rfl

/-- The four cells of a copy's semaphores, met from a step on. -/
theorem copy_cells_at (Φ : GSem nD τ sig → sProp 𝕄) (r : Bool) (c : Dev nD) :
    iprop((bigSep (Finset.Ico 62 66) fun t => Φ (sendCell r c t)) ∗ bigSep (Finset.Ico 62 66) fun t => Φ (recvCell r c t)) ⊢ copyCells Φ r c := by
  have hs (t : ℕ) : sendCell r c (t + 60) = sendCell r c t := by unfold sendCell; rw [semAt_congr _ (show (t + 60) % 4 = t % 4 by omega)]
  have hr (t : ℕ) : recvCell r c (t + 60) = recvCell r c t := by unfold recvCell; rw [semAt_congr _ (show (t + 60) % 4 = t % 4 by omega)]
  have hs' (t : ℕ) : sendCell r c (t + 64) = sendCell r c t := by unfold sendCell; rw [semAt_congr _ (show (t + 64) % 4 = t % 4 by omega)]
  have hr' (t : ℕ) : recvCell r c (t + 64) = recvCell r c t := by unfold recvCell; rw [semAt_congr _ (show (t + 64) % 4 = t % 4 by omega)]
  unfold copyCells
  rw [show (66 : ℕ) = 62 + 4 from rfl, show (4 : ℕ) = 0 + 4 from rfl, four, four, four, four,
    hs 2, hs 3, hs' 0, hs' 1, hr 2, hr 3, hr' 0, hr' 1]
  iintro ⟨⟨S2, S3, S0, S1⟩, R2, R3, R0, R1⟩
  isplitl [S0 S1 S2 S3]
  · isplitl [S0]; · iexact S0
    isplitl [S1]; · iexact S1
    isplitl [S2] <;> iassumption
  isplitl [R0]; · iexact R0
  isplitl [R1]; · iexact R1
  isplitl [R2] <;> iassumption

/-! ## Entry and end of a ring -/

/-- What a device starts ring `r` from. -/
def ringIn (r : Bool) (c : Dev nD) : sProp 𝕄 :=
  iprop(recvB r c 0 ∗ sendT r c 0 ∗ sendP r c 0
    ∗ (bigSep (Finset.Ico 0 58) fun t => dutyTok ER (ackCell r (pr r c)) 0 t)
    ∗ (bigSep (Finset.Ico 0 62) fun t => readerAt ES ((c, r, t) : Key) 0)
    ∗ (bigSep (Finset.Ico 0 58) fun t => cred (tallyAt (ackCell r c) t 1)) ∗ atPos ER (ackCell r c) 0 ∅ 0)
/-- What it starts the handshake from. -/
def barIn (c : Dev nD) : sProp 𝕄 :=
  iprop(dutyTok ER (barCell (pr false c)) 0 0 ∗ dutyTok ER (barCell (pr true c)) 0 1 ∗ cred (tallyAt (barCell c) 0 2) ∗ atPos ER (barCell c) 0 ∅ 0)
/-- What it owes at entry. -/
def O₀ (c : Dev nD) : Tallies :=
  owedS false c 0 + owedA false c 0 + (owedS true c 0 + owedA true c 0) + tallyAt (barCell (pr true c)) 0 1 + tallyAt (barCell (pr false c)) 0 1

/-- All that both rings owe at the start lies above the levels 0 and 1. -/
theorem above_rings (c : Dev nD) {n : ℕ} (h : n < 2) : Above n (owedS false c 0 + owedA false c 0 + (owedS true c 0 + owedA true c 0)) :=
  above_add (above_add (above_owedS false c (by omega)) (above_owedA false c (by omega)))
    (above_add (above_owedS true c (by omega)) (above_owedA true c (by omega)))
/-- A barrier signal lies above level 0. -/
theorem above_bar (c : Dev nD) : Above 0 (tallyAt (barCell c) 0 1) :=
  above_tally (by rw [L_tc]; exact Finset.mem_range.mpr (by omega)) (by unfold lv; rw [use_bar]; exact Nat.one_pos)
/-- All that a device owes at the start lies above level 0. -/
theorem above_O₀ (c : Dev nD) : Above 0 (O₀ c) := above_add (above_add (above_rings c (by omega)) (above_bar _)) (above_bar _)

/-- An unused slot is a free destination of one of the first four steps. -/
theorem free_first (c : Dev nD) (r : Bool) (s : ℕ) (hs : s < 4) :
    iprop(env A ∗ ∃ X, slotAt (F := F) c r s X) ⊢ free ((c, r, s) : Key) := by
  unfold free
  iintro ⟨#He, %X, H⟩
  isplitl [H]
  · iexists X; rw [dstAt_slot c r (show s < 31 by omega)]; iexact H
  rw [show s / 4 = 0 by omega]
  iapply (env_reached A (mem_recv r c s)); iexact He

/-- The four slots are released before the handshake. -/
theorem ring_open (c : Dev nD) (r : Bool) :
    iprop(env A ∗ ringIn r c ∗ ∃ X, owns (c : Thread nD τ) (commM r) fullShare X)
      ⊢ (iprop(|={Set.univ}=> (recvB r c 0 ∗ sendT r c 0 ∗ sendP r c 0 ∗ ackO r c 0 ∗ ackI r c 0 ∗ freed c r 4)) : sProp 𝕄) := by
  have e4 (Φ : Fin 4 → sProp 𝕄) : bigSep Finset.univ Φ = iprop(Φ 0 ∗ Φ 1 ∗ Φ 2 ∗ Φ 3) := bigSep_univ_eq_bigSepL [0, 1, 2, 3] (by decide) (by decide) Φ
  unfold ringIn
  rw [bigSep_Ico_succ_bot (show 0 < 62 by omega), bigSep_Ico_succ_bot (show 0 + 1 < 62 by omega),
    bigSep_Ico_succ_bot (show 0 + 1 + 1 < 62 by omega), bigSep_Ico_succ_bot (show 0 + 1 + 1 + 1 < 62 by omega)]
  iintro ⟨#He, ⟨HR, HT, HP, Hd, ⟨R0, R1, R2, R3, Rs⟩, Hc, Hat⟩, Hcomm⟩
  ihave Hs := (comm_split c r) $$ Hcomm
  ihave Hs := (Entails.of_eq (e4 fun t => iprop(∃ X, slotAt (F := F) c r t.val X))) $$ Hs
  icases Hs with ⟨S0, S1, S2, S3⟩
  ihave #F0 := (show (iprop(emp) : sProp 𝕄) ⊢ freed c r 0 by unfold freed; rw [Finset.range_zero, bigSep_empty]; iintro H; iexact H) $$ []
  · iempintro
  imod (release_step A c r 0 (by omega)) $$ [R0 S0] with #F1
  · isplitr; · iexact He
    isplitl [R0]; · iexact R0
    isplitl [S0]
    · iapply (free_first A c r 0 (by omega))
      isplitr; · iexact He
      iexact S0
    iexact F0
  imod (release_step A c r 1 (by omega)) $$ [R1 S1] with #F2
  · isplitr; · iexact He
    isplitl [R1]; · iexact R1
    isplitl [S1]
    · iapply (free_first A c r 1 (by omega))
      isplitr; · iexact He
      iexact S1
    iexact F1
  imod (release_step A c r 2 (by omega)) $$ [R2 S2] with #F3
  · isplitr; · iexact He
    isplitl [R2]; · iexact R2
    isplitl [S2]
    · iapply (free_first A c r 2 (by omega))
      isplitr; · iexact He
      iexact S2
    iexact F2
  imod (release_step A c r 3 (by omega)) $$ [R3 S3] with #F4
  · isplitr; · iexact He
    isplitl [R3]; · iexact R3
    isplitl [S3]
    · iapply (free_first A c r 3 (by omega))
      isplitr; · iexact He
      iexact S3
    iexact F3
  imodintro
  isplitl [HR]; · iexact HR
  isplitl [HT]; · iexact HT
  isplitl [HP]; · iexact HP
  isplitl [Hd Rs]; · unfold ackO; isplitl [Hd] <;> iassumption
  isplitl [Hc Hat]
  · unfold ackI
    isplitl [Hc]; · iexact Hc
    iexists ∅
    isplitr; · ipureintro; exact ⟨Finset.empty_subset _, Nat.zero_le _⟩
    isplitl [Hat]; · iexact Hat
    rw [bigSep_empty]; iempintro
  iexact F4

/-- A cell past its last round closes at zero. -/
theorem close_cell {g : GSem nD τ sig} (hg : g ∈ cells) (R : ℕ) (hR : ∀ j, R ≤ j → (sched A).duties g j = ∅) :
    iprop(env A ∗ atPos ER g R ∅ 0) ⊢ (iprop(|={Set.univ}=> semVal g 0) : sProp 𝕄) := by
  iintro ⟨#He, H⟩
  ihave #HI := (env_cell A hg) $$ He
  icases HI with ⟨%κ, #HI⟩
  iapply (Rounds.cell_close ER (sched A) (Set.mem_univ κ) (fun h => h) (R := R) hR)
  isplitr <;> iassumption

/-- Four cells with nothing left to come can be closed, and their counters are zero. -/
theorem close_cells (G : ℕ → GSem nD τ sig) (hG : ∀ t, G t ∈ cells) (hR : ∀ t, 62 ≤ t → ∀ j, t / 4 ≤ j → (sched A).duties (G t) j = ∅) :
    iprop(env A ∗ bigSep (Finset.Ico 62 66) fun t => iprop(atPos ER (G t) (t / 4) ∅ 0 ∗ reached ER (G t) (t / 4)))
      ⊢ (iprop(|={Set.univ}=> bigSep (Finset.Ico 62 66) fun t => semVal (G t) 0) : sProp 𝕄) := by
  refine BIBase.Entails.trans ?_ (bigSep_fupd _ _)
  refine BIBase.Entails.trans (sep_mono_left (BI.bigSep_of_persistent (Finset.Ico 62 66) (env A))) ?_
  rw [← bigSep_sep']
  refine bigSep_mono fun t ht => ?_
  show iprop(env A ∗ (atPos ER (G t) (t / 4) ∅ 0 ∗ reached ER (G t) (t / 4))) ⊢ (iprop(|={Set.univ}=> semVal (G t) 0) : sProp 𝕄)
  iintro ⟨#He, H, -⟩
  iapply (close_cell A (hG t) (t / 4) (hR t (Finset.mem_Ico.mp ht).1))
  isplitr <;> iassumption

/-- When a ring is over its semaphores are at zero, and its buffer is whole again. -/
theorem ring_close (c : Dev nD) (r : Bool) :
    iprop(env A ∗ After A r c)
      ⊢ (iprop(|={Set.univ}=> (sent A r c 31 63 ∗ (∃ X, owns (c : Thread nD τ) (commM r) fullShare X)
          ∗ semVal (ackCell r c) 0 ∗ copyCells (fun g => semVal g 0) r c)) : sProp 𝕄) := by
  unfold After recvB sendP ackI kept
  iintro ⟨#He, ⟨-, HR⟩, HP, ⟨-, %T, %hT, Hat, -⟩, Hs, Hk⟩
  have hsub : Finset.range 58 ⊆ T := (Finset.eq_of_subset_of_card_le hT.1 (by rw [Finset.card_range]; exact hT.2)).ge
  ihave #HI := (env_cell A (mem_ack r c)) $$ He
  icases HI with ⟨%κ, #HI⟩
  imod (Rounds.fupd_skip ER (sched A) (g := ackCell r c) (R := 0) (T := T) (m := 58) (by rw [duties_ack]; exact hsub) (by rw [expect_ack]) (Set.mem_univ κ)) $$ [Hat] with ⟨Hat, -⟩
  · isplitr <;> iassumption
  imod (close_cell A (mem_ack r c) (0 + 1) (later_ack A c r)) $$ [Hat] with Hz
  · isplitr <;> iassumption
  imod (close_cells A (recvCell r c) (mem_recv r c) fun t ht => later_recv A c r ht) $$ [HR] with HR
  · isplitr <;> iassumption
  imod (close_cells A (sendCell r c) (mem_send r c) fun t ht => later_send A c r ht) $$ [HP] with HP
  · isplitr <;> iassumption
  imodintro
  isplitl [Hs]; · iexact Hs
  isplitl [Hk]
  · iapply (comm_join c r)
    have e4 (Φ : Fin 4 → sProp 𝕄) : bigSep Finset.univ Φ = iprop(Φ 0 ∗ Φ 1 ∗ Φ 2 ∗ Φ 3) := bigSep_univ_eq_bigSepL [0, 1, 2, 3] (by decide) (by decide) Φ
    have es (t t' : ℕ) (h : t % 4 = t' % 4) : (iprop(∃ X, slotAt (F := F) c r t X) : sProp 𝕄) = iprop(∃ X, slotAt c r t' X) := by
      unfold slotAt; rw [slotV_congr r h]
    rw [e4]
    ihave Hk := (Entails.of_eq (four 27 fun t => iprop(∃ X, slotAt (F := F) c r t X))) $$ Hk
    icases Hk with ⟨H3, H0, H1, H2⟩
    isplitl [H0]; · iapply (Entails.of_eq (es 28 0 rfl)); iexact H0
    isplitl [H1]; · iapply (Entails.of_eq (es 29 1 rfl)); iexact H1
    isplitl [H2]; · iapply (Entails.of_eq (es 30 2 rfl)); iexact H2
    iapply (Entails.of_eq (es 27 3 rfl)); iexact H3
  isplitl [Hz]; · iexact Hz
  iapply (copy_cells_at (fun g => semVal g 0) r c)
  isplitl [HP] <;> iassumption

/-! ## The body -/

/-- The offset of a whole array. -/
theorem hz : (![0, 0] : Fin 2 → Nat) = fun _ => 0 := funext fun a => by fin_cases a <;> rfl
/-- Loading the whole of `x`'s buffer gives what it holds, -/
theorem read_x (f : (cc0_stg0_0 : Ref sig .tc).ty.Contents (Elt F)) :
    xM.view.readAt (Elt F) (Rect.unit (s := S4096x128) ![0, 0] S4096x128.size inb_S4096x128_S4096x128_0_0).toLoadRect f = f :=
  Memref.readAt_unit_zero (Elt F) cc0_stg0_0 hz _ f
/-- and so does loading the whole of `w`'s. -/
theorem read_w (f : (cc0_stg1_0 : Ref sig .tc).ty.Contents (Elt F)) :
    wM.view.readAt (Elt F) (Rect.unit (s := S128x2048) ![0, 0] S128x2048.size inb_S128x2048_S128x2048_0_0).toLoadRect f = f :=
  Memref.readAt_unit_zero (Elt F) cc0_stg1_0 hz _ f
/-- Storing over the whole output leaves what was stored. -/
theorem write_o (f w : (cc0_stg2_0 : Ref sig .tc).ty.Contents (Elt F)) :
    (oM.access (Rect.unit (s := S4096x2048) ![0, 0] S4096x2048.size inb_S4096x2048_S4096x2048_0_0) : View sig .tc _ _ _).write (Elt F) f w Finset.univ = w :=
  Memref.write_access_unit_zero_univ (Elt F) cc0_stg2_0 hz _ f w

/-- To own a whole buffer is to hold it at its contents. -/
theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Buffer `b` of device `c` at contents `X`. -/
abbrev held (c : Dev nD) (b : Ref sig .tc) (X : b.ty.Contents (Elt F)) : sProp 𝕄 := ((c : Thread nD τ).loc b) ↦{fullShare} X

/-- The first copy of a ring. -/
theorem wp_first (c : Dev nD) (r : Bool) (Y : Tallies) (K : PG F) (Q : PUnit → sProp 𝕄) :
    iprop(env A ∗ recvB r c 0 ∗ sendT r c 0 ∗ sendP r c 0 ∗ ackO r c 0 ∗ ackI r c 0 ∗ freed c r 4 ∗ freed (nx r c) r 4 ∗ fresh A r c 0
        ∗ ow c (owedS r c 0 + Y))
      ⊢ iprop(((Before A r c 0 ∗ ow c (owedS r c 1 + Y)) -∗ Runs c K Q) -∗ Runs c (send (printed c) ((printed c).dev (sndIx r 0)) r 0 K) Q) := by
  unfold Before fresh sent kept
  rw [bigSep_Ico_succ_bot (show 0 < 32 by omega), show done 0 = 0 from rfl, show given 0 = 0 from rfl, show min (0 + 1) 62 = 0 + 1 from rfl,
    show min 0 58 = 0 from rfl, show min 0 31 = 0 from rfl, Finset.Ico_self, bigSep_empty, Finset.Ico_eq_empty_of_le (show 0 ≤ 27 by omega), bigSep_empty]
  iintro ⟨#He, HR, HT, HP, HA, HI, #Hf, #Hf', ⟨Hc, Hcs⟩, HO⟩ HK
  iapply (wp_sendStep A c _ r 0 0 (by omega) (by omega) (by omega) (dev_snd c r 0 (by omega)) Y) $$ [HT HP Hc HO]
  · isplitr; · iexact He
    isplitl [HT]; · iexact HT
    isplitr; · unfold sendC; rw [Finset.Ico_self, bigSep_empty]; iempintro
    isplitl [HP]; · iexact HP
    isplitr; · iapply (freed_at (c := nx r c) (r := r) (n := 4) (s := 0) (by omega)); iexact Hf'
    isplitl [Hc]; · iexact Hc
    iexact HO
  iintro ⟨HT, HC, HP, HO⟩
  iapply HK
  isplitr [HO]; rotate_left; · iexact HO
  isplitl [HR]; · iexact HR
  isplitl [HT]; · iexact HT
  isplitl [HC]; · iexact HC
  isplitl [HP]; · iexact HP
  isplitl [HA]; · iexact HA
  isplitr; · iexact Hf
  isplitr; · iexact Hf'
  isplitl [HI]; · iexact HI
  isplitl [Hcs]; · iexact Hcs
  isplitr <;> iempintro

/-- The handshake: each device learns that both receivers have released their slots. -/
theorem wp_handshake (c : Dev nD) (Y : Tallies) (hY : Above 1 Y) (K : PG F) (Q : PUnit → sProp 𝕄) :
    iprop(env A ∗ barIn c ∗ freed c false 4 ∗ freed c true 4 ∗ ow c (Y + tallyAt (barCell (pr true c)) 0 1 + tallyAt (barCell (pr false c)) 0 1))
      ⊢ iprop(((freed (nx false c) false 4 ∗ freed (nx true c) true 4 ∗ atPos ER (barCell c) 1 ∅ 0 ∗ ow c Y) -∗ Runs c K Q)
        -∗ Runs c (.op (.semSignal ((printed c).dev 1, .tc) barS ((1 : ℕ) : ℤ)) fun _ =>
          .op (.semSignal ((printed c).dev 2, .tc) barS ((1 : ℕ) : ℤ)) fun _ => .op (.semWait barS ((2 : ℕ) : ℤ)) fun _ => K) Q) := by
  unfold barIn ow
  rw [(dev_bar c).1, (dev_bar c).2]
  iintro ⟨#He, ⟨T0, T1, Hc, Hat⟩, #F0, #F1, %W, HO⟩ HK
  ihave #HI0 := (env_cell A (mem_bar (pr false c))) $$ He
  icases HI0 with ⟨%κ₀, #HI0⟩
  ihave #HI1 := (env_cell A (mem_bar (pr true c))) $$ He
  icases HI1 with ⟨%κ₁, #HI1⟩
  ihave #HI := (env_cell A (mem_bar c)) $$ He
  icases HI with ⟨%κ, #HI⟩
  iapply (Rounds.wp_signal 𝒱₀ ER (sched A) (c : Thread nD τ) none (dst := (pr false c : Thread nD τ)) (κ := κ₀)
      (d := false.toNat) (by rw [duties_bar]; decide) (amount_bar A (pr false c) 0 _) 0
      (O₀ := Y + tallyAt (barCell (pr true c)) 0 1 + tallyAt (barCell (pr false c)) 0 1) (Y + tallyAt (barCell (pr true c)) 0 1) rfl) $$ [HO T0]
  · isplitr; · iexact HI0
    isplitl [HO]; · iexact HO
    isplitl [T0]; · iexact T0
    isplitr; · rw [payload_bar A (pr false c) false, nx_pr]; iexact F0
    iapply (env_reached A (mem_bar (pr false c))); iexact He
  iintro HO
  iapply (Rounds.wp_signal 𝒱₀ ER (sched A) (c : Thread nD τ) none (dst := (pr true c : Thread nD τ)) (κ := κ₁)
      (d := true.toNat) (by rw [duties_bar]; decide) (amount_bar A (pr true c) 0 _) 0
      (O₀ := Y + tallyAt (barCell (pr true c)) 0 1) Y rfl) $$ [HO T1]
  · isplitr; · iexact HI1
    isplitl [HO]; · iexact HO
    isplitl [T1]; · iexact T1
    isplitr; · rw [payload_bar A (pr true c) true, nx_pr]; iexact F1
    iapply (env_reached A (mem_bar (pr true c))); iexact He
  iintro HO
  iapply (Rounds.wp_wait_rest_token 𝒱₀ ER (sched A) (c : Thread nD τ) none (κ := κ) (k' := 2)
      (wpE_semWait_eq 𝒱₀ (c : Thread nD τ) none Set.univ) (Set.mem_univ _) 0 (O := Y) (W := W) (R := 0) (m := 0) (T := ∅)
      (by rw [expect_bar])) $$ [Hc HO Hat]
  · isplitr; · iexact HI
    isplitl [Hc]; · iexact Hc
    isplitl [HO]; · iexact HO
    isplitr
    · iapply (env_mayWait (F := F) A c (SemLoc.reg barS) 0 Y 1 (by omega) (lv_bar c 0) hY); iexact He
    iexact Hat
  iintro ⟨HO, Hat, -, Hpay⟩
  ihave Hp := (Entails.of_eq (rest_bar A c)) $$ Hpay
  icases Hp with ⟨G0, G1⟩
  iapply HK
  isplitl [G0]; · iexact G0
  isplitl [G1]; · iexact G1
  isplitl [Hat]; · iexact Hat
  iexists _; iexact HO

/-- A device's communication buffers, whatever they hold. -/
abbrev comms (c : Dev nD) : sProp 𝕄 :=
  iprop((∃ X, owns (c : Thread nD τ) (commM false) fullShare X) ∗ ∃ X, owns (c : Thread nD τ) (commM true) fullShare X)

/-- The body: from its two blocks to the result, every semaphore at zero at the end. -/
theorem wp_ringBody (c : Dev nD) (x : (cc0_stg0_0 : Ref sig .tc).ty.Contents (Elt F)) (w : (cc0_stg1_0 : Ref sig .tc).ty.Contents (Elt F))
    (hA : A c = k0_pay1 x w) (o : (cc0_stg2_0 : Ref sig .tc).ty.Contents (Elt F)) (Q : PUnit → sProp 𝕄) :
    iprop(env A ∗ barIn c ∗ ringIn false c ∗ ringIn true c ∗ comms c ∗ held c cc0_stg0_0 x ∗ held c cc0_stg1_0 w ∗ held c cc0_stg2_0 o ∗ ow c (O₀ c))
      ⊢ iprop((((bigSep Finset.univ fun j : Fin 19 => semVal (kcell (c, j)) 0) ∗ comms c ∗ held c cc0_stg0_0 x ∗ held c cc0_stg1_0 w
          ∗ owns (c : Thread nD τ) oM fullShare (result A) ∗ ow c 0) -∗ Q ⟨⟩) -∗ Runs c (ringBody (printed c)) Q) := by
  unfold ringBody O₀
  iintro ⟨#He, HB, RF, RT, ⟨CF, CT⟩, Hx, Hw, Ho, HO⟩ HK
  iapply fupd_wp
  imod (ring_open A c false) $$ [RF CF] with ⟨RF, TF, PF, AF, IF, #FF⟩
  · isplitr; · iexact He
    isplitl [RF] <;> iassumption
  imod (ring_open A c true) $$ [RT CT] with ⟨RT, TT, PT, AT, IT, #FT⟩
  · isplitr; · iexact He
    isplitl [RT] <;> iassumption
  imodintro
  iapply (wp_handshake A c (owedS false c 0 + owedA false c 0 + (owedS true c 0 + owedA true c 0)) (above_rings c (by omega))) $$ [HB HO]
  · isplitr; · iexact He
    isplitl [HB]; · iexact HB
    isplitr; · iexact FF
    isplitr; · iexact FT
    iexact HO
  iintro ⟨#NF, #NT, Hat, HO⟩
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x2048) ![0, 0] S4096x2048.size inb_S4096x2048_S4096x2048_0_0)
    (Mk := Finset.univ) (Finset.subset_univ _)) $$ Ho; iintro Ho
  rw [write_o, ← hA]
  ihave Ho := (show held c cc0_stg2_0 (A c) ⊢ owns (c : Thread nD τ) oM fullShare (A c) by
    rw [owns_whole_eq]; iintro H; iexists _; isplitr; · ipureintro; rfl
    iexact H) $$ Ho
  ihave Ho := (fresh_intro A c) $$ Ho
  icases Ho with ⟨CF, CT⟩
  ihave HO := (ow_congr c (add_assoc (owedS false c 0) (owedA false c 0) (owedS true c 0 + owedA true c 0))) $$ HO
  iapply (wp_first A c false (owedA false c 0 + (owedS true c 0 + owedA true c 0))) $$ [RF TF PF AF IF CF HO]
  · isplitr; · iexact He
    isplitl [RF]; · iexact RF
    isplitl [TF]; · iexact TF
    isplitl [PF]; · iexact PF
    isplitl [AF]; · iexact AF
    isplitl [IF]; · iexact IF
    isplitr; · iexact FF
    isplitr; · iexact NF
    isplitl [CF] <;> iassumption
  iintro ⟨BF, HO⟩
  ihave HO := (ow_congr c (show owedS false c 1 + (owedA false c 0 + (owedS true c 0 + owedA true c 0))
      = owedS true c 0 + (debt false c 0 + owedA true c 0) by
    unfold debt; rw [← add_assoc, add_left_comm, zero_add])) $$ HO
  iapply (wp_first A c true (debt false c 0 + owedA true c 0)) $$ [RT TT PT AT IT CT HO]
  · isplitr; · iexact He
    isplitl [RT]; · iexact RT
    isplitl [TT]; · iexact TT
    isplitl [PT]; · iexact PT
    isplitl [AT]; · iexact AT
    isplitl [IT]; · iexact IT
    isplitr; · iexact FT
    isplitr; · iexact NT
    isplitl [CT] <;> iassumption
  iintro ⟨BT, HO⟩
  ihave HO := (ow_congr c (show owedS true c 1 + (debt false c 0 + owedA true c 0) = debt false c 0 + debt true c 0 from add_left_comm _ _ _)) $$ HO
  have hl (r : Bool) : (iprop(emp) : sProp 𝕄) ⊢ last A r c (0 - 1) := by unfold last; rw [if_pos (by omega)]
  iapply (wp_steps A c _ _ 62 0 rfl) $$ [BF BT HO]
  · isplitr; · iexact He
    isplitl [BF]; · iexact BF
    isplitr; · iapply (hl false); iempintro
    isplitl [BT]; · iexact BT
    isplitr; · iapply (hl true); iempintro
    iexact HO
  rw [debt_end, debt_end]
  iintro ⟨BF, LF, BT, LT, HO⟩
  iapply (wp_lastWaits A c false (0 + 0) (above_add (above_zero 0) (above_zero 0))) $$ [BF LF HO]
  · isplitr; · iexact He
    isplitl [BF]; · iexact BF
    isplitl [LF] <;> iassumption
  iintro ⟨BF, HO⟩
  iapply (wp_lastWaits A c true (0 + 0) (above_add (above_zero 0) (above_zero 0))) $$ [BT LT HO]
  · isplitr; · iexact He
    isplitl [BT]; · iexact BT
    isplitl [LT] <;> iassumption
  iintro ⟨BT, HO⟩
  ihave HO := (ow_congr c (add_zero (0 : Tallies))) $$ HO
  unfold Runs; rw [wp_ret]
  imod (ring_close A c false) $$ [BF] with ⟨DF, CF, AF, SF⟩
  · isplitr <;> iassumption
  imod (ring_close A c true) $$ [BT] with ⟨DT, CT, AT, ST⟩
  · isplitr <;> iassumption
  imod (close_cell A (mem_bar c) 1 (later_bar A c)) $$ [Hat] with Hb
  · isplitr <;> iassumption
  imodintro
  iapply HK
  isplitl [AF AT Hb SF ST]
  · rw [dev_cells c fun g => semVal g 0]
    isplitl [AF]; · iexact AF
    isplitl [AT]; · iexact AT
    isplitl [Hb]; · iexact Hb
    isplitl [SF] <;> iassumption
  isplitl [CF CT]; · isplitl [CF] <;> iassumption
  isplitl [Hx]; · iexact Hx
  isplitl [Hw]; · iexact Hw
  isplitl [DF DT]
  · iapply (result_intro A c); isplitl [DF] <;> iassumption
  iexact HO

end Cert.RingProof

end
-- ==== Proof.Deal.lean ====
/-
How the launch deals out what the devices start from: the duty tokens go to the devices that pay, the slots' write
tokens to the devices that send, and each device gets the credit for what its neighbours owe it.
-/
module

public import proofs.«01_k».proof.Proof.Body

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (A : Dev nD → Whole F)

local notation "𝕄" => MT nD τ sig ℕ (Elt F) ℕ UU ℕ

/-! ## Families over finite types and over intervals -/

/-- A product over `Fin n` is one over the numbers below `n`. -/
theorem fin_Ico (n : ℕ) (Φ : ℕ → sProp 𝕄) : (bigSep Finset.univ fun t : Fin n => Φ t.val) = bigSep (Finset.Ico 0 n) Φ := by
  have e : Finset.Ico 0 n = (Finset.univ : Finset (Fin n)).map Fin.valEmbedding := by
    ext t
    rw [Finset.mem_Ico, Finset.mem_map]
    exact ⟨fun h => ⟨⟨t, h.2⟩, Finset.mem_univ _, rfl⟩, fun ⟨u, _, hu⟩ => ⟨Nat.zero_le _, hu ▸ u.isLt⟩⟩
  rw [e, bigSep_map]; rfl

/-- A product over the two rings, written out. -/
theorem both_rings (Φ : Bool → sProp 𝕄) : bigSep Finset.univ Φ = iprop(Φ false ∗ Φ true) :=
  bigSep_univ_eq_bigSepL [false, true] (by decide) (by decide) Φ

/-- The destinations that are used: one for each device, ring and step. -/
def keyOf : Dev nD × Bool × Fin 62 ↪ Key where
  toFun x := (x.1, x.2.1, x.2.2.val)
  inj' := by
    rintro ⟨c, r, t⟩ ⟨c', r', t'⟩ h
    have h1 : c = c' := congrArg (fun k : Key => k.1) h
    have h2 : r = r' := congrArg (fun k : Key => k.2.1) h
    have h3 : t = t' := Fin.ext (congrArg (fun k : Key => k.2.2) h)
    rw [h1, h2, h3]

/-- A family over the slots is one over the devices, the rings and the steps. -/
theorem by_keys (Φ : Key → sProp 𝕄) : bigSep keys Φ
    = iprop((bigSep Finset.univ fun c : Dev nD => bigSep (Finset.Ico 0 62) fun t => Φ (c, false, t))
      ∗ bigSep Finset.univ fun c : Dev nD => bigSep (Finset.Ico 0 62) fun t => Φ (c, true, t)) := by
  have e : keys = Finset.univ.map keyOf := by
    ext ⟨c, r, t⟩
    rw [Finset.mem_map]
    refine ⟨fun h => ?_, fun ⟨u, _, hu⟩ => hu ▸ mem_key u.1 u.2.1 u.2.2.isLt⟩
    unfold keys at h
    have h2 := (Finset.mem_product.mp (Finset.mem_product.mp h).2).2
    exact ⟨(c, r, ⟨t, Finset.mem_range.mp h2⟩), Finset.mem_univ _, rfl⟩
  rw [e, bigSep_map, bigSep_univ_prod, ← bigSep_sep']
  refine bigSep_congr fun c _ => ?_
  rw [bigSep_univ_prod, both_rings]
  exact congrArg₂ _ (fin_Ico 62 fun t => Φ (c, false, t)) (fin_Ico 62 fun t => Φ (c, true, t))

/-- All cells, device by device. -/
theorem by_cells (Φ : GSem nD τ sig → sProp 𝕄) :
    bigSep cells Φ = bigSep Finset.univ fun c : Dev nD => bigSep Finset.univ fun j : Fin 19 => Φ (kcell (c, j)) := by
  unfold cells; rw [bigSep_map, bigSep_univ_prod]; rfl

/-! ## Tokens as minted -/

/-- The duties of a device's cells for one ring: its sends, its receives, its acknowledgements and its handshake. -/
abbrev Duties : Type := (Fin 62 ⊕ Fin 62) ⊕ (Fin 58 ⊕ Unit)

/-- The cell, round and number of the deposit that each token allows. -/
def tokOf (x : Dev nD × Bool × Duties) : GSem nD τ sig × ℕ × ℕ := match x with
  | (c, r, .inl (.inl t)) => (sendCell r c t.val, t.val / 4, 0)
  | (c, r, .inl (.inr t)) => (recvCell r c t.val, t.val / 4, 0)
  | (c, r, .inr (.inl t)) => (ackCell r c, 0, t.val)
  | (c, r, .inr (.inr _)) => (barCell c, 0, r.toNat)

/-- No two tokens are for the same deposit. -/
theorem tokOf_injective : Function.Injective tokOf := by
  have hdev (x : Dev nD × Bool × Duties) : (tokOf x).1.1.1 = x.1 := by rcases x with ⟨c, r, (t | t) | (t | t)⟩ <;> rfl
  have huse (x : Dev nD × Bool × Duties) : useOf (tokOf x).1.2 = match x with
      | (_, r, .inl (.inl t)) => .send r (t.val % 4)
      | (_, r, .inl (.inr t)) => .recv r (t.val % 4)
      | (_, r, .inr (.inl _)) => .ack r
      | (_, _, .inr (.inr _)) => .bar := by
    rcases x with ⟨c, r, (t | t) | (t | t)⟩
    · exact use_send r t.val
    · exact use_recv r t.val
    · exact use_ack r
    · exact use_bar
  intro x y h
  have h1 : x.1 = y.1 := by rw [← hdev, ← hdev, h]
  have h2 := huse x
  rw [h, huse y] at h2
  have h3 : (tokOf x).2 = (tokOf y).2 := by rw [h]
  rcases x with ⟨c, r, (t | t) | (t | t)⟩ <;> rcases y with ⟨c', r', (t' | t') | (t' | t')⟩ <;>
    simp only [Use.send.injEq, Use.recv.injEq, Use.ack.injEq, reduceCtorEq] at h2 <;> (obtain rfl : c = c' := h1) <;>
    simp only [tokOf, Prod.mk.injEq] at h3
  · obtain ⟨rfl, h2⟩ := h2; obtain rfl : t = t' := Fin.ext (by omega); rfl
  · obtain ⟨rfl, h2⟩ := h2; obtain rfl : t = t' := Fin.ext (by omega); rfl
  · subst h2; obtain rfl : t = t' := Fin.ext h3.2; rfl
  · obtain rfl : r = r' := by revert h3; cases r <;> cases r' <;> decide
    rfl

/-- All tokens. -/
def toks : Finset (GSem nD τ sig × ℕ × ℕ) := Finset.univ.map ⟨tokOf, tokOf_injective⟩

/-- The tokens of device `c`'s own cells for ring `r`. -/
def minted (r : Bool) (c : Dev nD) : sProp 𝕄 :=
  iprop(((bigSep (Finset.Ico 0 62) fun t => dutyTok ER (sendCell r c t) (t / 4) 0) ∗ bigSep (Finset.Ico 0 62) fun t => dutyTok ER (recvCell r c t) (t / 4) 0)
    ∗ (bigSep (Finset.Ico 0 58) fun t => dutyTok ER (ackCell r c) 0 t) ∗ dutyTok ER (barCell c) 0 r.toNat)

/-- All tokens, by ring and device. -/
theorem by_toks : (bigSep toks fun x => (dutyTok ER x.1 x.2.1 x.2.2 : sProp 𝕄))
    = iprop((bigSep Finset.univ fun c : Dev nD => minted (F := F) false c) ∗ bigSep Finset.univ fun c : Dev nD => minted true c) := by
  have e (r : Bool) (c : Dev nD) : (bigSep Finset.univ fun d : Duties =>
      (dutyTok ER (tokOf (c, r, d)).1 (tokOf (c, r, d)).2.1 (tokOf (c, r, d)).2.2 : sProp 𝕄)) = minted r c := by
    unfold minted
    rw [bigSep_univ_sum, bigSep_univ_sum, bigSep_univ_sum]
    refine congrArg₂ _ (congrArg₂ _ ?_ ?_) (congrArg₂ _ ?_ ?_)
    · exact fin_Ico 62 fun t => dutyTok ER (sendCell r c t) (t / 4) 0
    · exact fin_Ico 62 fun t => dutyTok ER (recvCell r c t) (t / 4) 0
    · exact fin_Ico 58 fun t => dutyTok ER (ackCell r c) 0 t
    · rw [show (Finset.univ : Finset Unit) = {()} from rfl, bigSep_singleton]; rfl
  unfold toks
  rw [bigSep_map, bigSep_univ_prod, ← bigSep_sep']
  refine bigSep_congr fun c _ => ?_
  rw [bigSep_univ_prod, both_rings]
  exact congrArg₂ _ (e false c) (e true c)

/-! ## The launch's element, device by device -/

/-- What the run starts from: the pipeline's own part, and the kernel's cells, tokens and slots. -/
def u₀ : UU :=
  (initOf (Pipeline.cells cfgs cellOf_inj) (Pipeline.launchToks cfgs cellOf_inj), (initOf cells toks, initSlots keys 1))

/-- What is kept with the first device until the slots are made. -/
def atFirst (P : sProp 𝕄) (c : Dev nD) : sProp 𝕄 := if c = ⟨0, by decide⟩ then P else iprop(emp)

/-- What is kept with the first device is kept once. -/
theorem at_first (P : sProp 𝕄) : bigSep Finset.univ (atFirst P) = P := by
  rw [bigSep_univ_at _ (⟨0, by decide⟩ : Dev nD), bigSep_congr (Φ := atFirst P) (Ψ := fun _ => (BI.emp : sProp 𝕄)) fun c hc => if_neg (Finset.ne_of_mem_erase hc),
    bigSep_emp_const]
  unfold atFirst
  rw [if_pos rfl]
  have h1 : iprop(P ∗ emp) ⊢ P := by iintro ⟨H, -⟩; iexact H
  have h2 : P ⊢ iprop(P ∗ emp) := by
    iintro H
    isplitl [H]; · iexact H
    iempintro
  exact BI.equiv_iff.mp ⟨h1, h2⟩

/-- What the launch deals to device `c`. -/
def G (c : Dev nD) : sProp 𝕄 :=
  iprop((bigSep Finset.univ fun j : Fin 19 => roundState ER (sched A) (kcell (c, j)) 0)
    ∗ (bigSep Finset.univ fun j : Fin 19 => reached ER (kcell (c, j)) 0) ∗ (bigSep Finset.univ fun j : Fin 19 => atPos ER (kcell (c, j)) 0 ∅ 0)
    ∗ (minted false c ∗ minted true c) ∗ atFirst (BI.own (ES (initSlots keys 1))) c)

/-- The kernel's part splits into what each device's share is. -/
theorem fund_ring : BI.own ((embR : Emb UB (MT nD τ sig ℕ (Elt F) ℕ UU ℕ)) (initOf cells toks, initSlots keys 1))
    ⊢ (iprop(|==> bigSep Finset.univ (G A)) : sProp 𝕄) := by
  iintro HX
  ihave HX := (own_pair_emb embR _ _) $$ HX
  icases HX with ⟨HR, HS⟩
  imod (Rounds.fund ER (sched A) cells toks) $$ HR with ⟨Hst, Hr, Hat, Htok⟩
  imodintro
  ihave Hst := (Entails.of_eq (by_cells fun g => roundState ER (sched A) g 0)) $$ Hst
  ihave Hr := (Entails.of_eq (by_cells (F := F) fun g => reached ER g 0)) $$ Hr
  ihave Hat := (Entails.of_eq (by_cells (F := F) fun g => atPos ER g 0 ∅ 0)) $$ Hat
  ihave Htok := (Entails.of_eq (by_toks (F := F))) $$ Htok
  ihave HS := (Entails.of_eq (at_first (BI.own (ES (initSlots keys 1)) : sProp 𝕄)).symm) $$ HS
  unfold G
  simp only [bigSep_sep']
  isplitl [Hst]; · iexact Hst
  isplitl [Hr]; · iexact Hr
  isplitl [Hat]; · iexact Hat
  isplitl [Htok] <;> iassumption

/-! ## The semaphores -/

/-- The kernel's own semaphores: all it uses but the barrier's. -/
abbrev osem (j : Fin 18) : SemLoc sig := csem ((2 : Fin 19).succAbove j)
/-- The kernel's own semaphores are those the launch gives it. -/
theorem ownSemFacts : Pipeline.OwnSemFacts cfg0.spec osem := by decide

/-- The one counter from outside the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All 19 counters of a device, at zero. -/
theorem sems0_eq (c : Dev nD) :
    (iprop(unscopedSems0 c ∗ Pipeline.ownSems0 (Ix := ℕ) (Name := ℕ) (U := UU) (Lvl := ℕ) (Val := Elt F) (τ := τ) osem c) : sProp 𝕄)
      = bigSep Finset.univ fun j : Fin 19 => semVal (kcell (c, j)) 0 := by
  have e : (Finset.univ : Finset (Fin 19)).erase 2 = (Finset.univ : Finset (Fin 18)).map (Fin.succAboveEmb 2) := by decide
  rw [bigSep_univ_at _ (2 : Fin 19), e, bigSep_map, unscopedSems0_eq]
  rfl

/-! ## What the devices get -/

/-- What every device knows, the levels aside. -/
def known : sProp 𝕄 :=
  iprop((bigSep cells fun g => iprop(∃ κ : ℕ, cellInv ER (sched A) κ g)) ∗ (bigSep keys fun k => iprop(∃ κ : ℕ, slotInv ES κ k (free k)))
    ∗ bigSep cells fun g => reached ER g 0)
/-- It may be used by all devices. -/
instance known_persistent : BI.Persistent (known A) := by unfold known; infer_instance

/-- The tokens and counts ring `r` needs on device `c`. -/
def dealt (r : Bool) (c : Dev nD) : sProp 𝕄 :=
  iprop(((bigSep (Finset.Ico 0 62) fun t => dutyTok ER (sendCell r c t) (t / 4) 0)
      ∗ bigSep (Finset.Ico 0 62) fun t => dutyTok ER (recvCell r (nx r c) t) (t / 4) 0)
    ∗ ((bigSep (Finset.Ico 0 58) fun t => dutyTok ER (ackCell r (pr r c)) 0 t) ∗ dutyTok ER (barCell (pr r c)) 0 r.toNat)
    ∗ (bigSep (Finset.Ico 0 62) fun t => readerAt ES ((c, r, t) : Key) 0) ∗ bigSep (Finset.Ico 0 62) fun t => writeTok ES ((nx r c, r, t) : Key) 1)

/-- What one device alone is dealt: its positions and each ring's tokens. -/
def mine (c : Dev nD) : sProp 𝕄 :=
  iprop((bigSep Finset.univ fun j : Fin 19 => atPos ER (kcell (c, j)) 0 ∅ 0) ∗ dealt false c ∗ dealt true c)

/-- What a device starts with: what all know, and its own. -/
def G' (c : Dev nD) : sProp 𝕄 := iprop(known A ∗ mine c)

/-- The tokens dealt around ring `r`: receives and writes to the device before, acknowledgements and the handshake to
    the device after. -/
theorem deal (r : Bool) :
    iprop((bigSep Finset.univ fun c : Dev nD => minted (F := F) r c)
        ∗ (bigSep Finset.univ fun c : Dev nD => bigSep (Finset.Ico 0 62) fun t => readerAt ES ((c, r, t) : Key) 0)
        ∗ bigSep Finset.univ fun c : Dev nD => bigSep (Finset.Ico 0 62) fun t => writeTok ES ((c, r, t) : Key) 1)
      ⊢ (bigSep Finset.univ fun c : Dev nD => dealt r c : sProp 𝕄) := by
  unfold minted dealt
  simp only [bigSep_sep']
  rw [bigSep_univ_equiv (ring r) fun c : Dev nD => (bigSep (Finset.Ico 0 62) fun t => dutyTok ER (recvCell r c t) (t / 4) 0 : sProp 𝕄),
    bigSep_univ_equiv (ring r).symm fun c : Dev nD => (bigSep (Finset.Ico 0 58) fun t => dutyTok ER (ackCell r c) 0 t : sProp 𝕄),
    bigSep_univ_equiv (ring r).symm fun c : Dev nD => (dutyTok ER (barCell c) 0 r.toNat : sProp 𝕄),
    bigSep_univ_equiv (ring r) fun c : Dev nD => (bigSep (Finset.Ico 0 62) fun t => writeTok ES ((c, r, t) : Key) 1 : sProp 𝕄)]
  iintro ⟨⟨⟨H1, H2⟩, H3, H4⟩, H5, H6⟩
  isplitl [H1 H2]; · isplitl [H1]; · iexact H1
                     iexact H2
  isplitl [H3 H4]; · isplitl [H3]; · iexact H3
                     iexact H4
  isplitl [H5]; · iexact H5
  iexact H6

/-- A device's semaphores become its cells. -/
theorem core_alloc (c : Dev nD) :
    iprop(Pipeline.ownSems0 (Ix := ℕ) (Name := ℕ) (U := UU) (Lvl := ℕ) (Val := Elt F) (τ := τ) osem c ∗ unscopedSems0 c ∗ G A c)
      ⊢ (iprop(|={Set.univ}=> ((bigSep Finset.univ fun j : Fin 19 => iprop(∃ κ : ℕ, cellInv ER (sched A) κ (kcell (c, j))))
          ∗ (bigSep Finset.univ fun j : Fin 19 => reached ER (kcell (c, j)) 0) ∗ (bigSep Finset.univ fun j : Fin 19 => atPos ER (kcell (c, j)) 0 ∅ 0)
          ∗ (minted false c ∗ minted true c) ∗ atFirst (BI.own (ES (initSlots keys 1))) c)) : sProp 𝕄) := by
  unfold G
  iintro ⟨Ho, Hu, Hst, Hrest⟩
  ihave Hv := (Entails.of_eq (sems0_eq (F := F) c)) $$ [Ho Hu]
  · isplitl [Hu] <;> iassumption
  have halloc : iprop((bigSep Finset.univ fun j : Fin 19 => semVal (kcell (c, j)) 0) ∗ bigSep Finset.univ fun j : Fin 19 => roundState ER (sched A) (kcell (c, j)) 0)
      ⊢ (iprop(|={Set.univ}=> bigSep Finset.univ fun j : Fin 19 => iprop(∃ κ : ℕ, cellInv ER (sched A) κ (kcell (c, j)))) : sProp 𝕄) := by
    rw [← bigSep_sep']
    exact (bigSep_mono fun j _ => (Rounds.body_intro ER (sched A) (kcell (c, j))).trans inv_alloc).trans (bigSep_fupd _ _)
  imod halloc $$ [Hv Hst] with Hinv
  · isplitl [Hv] <;> iassumption
  imodintro
  isplitl [Hinv]; · iexact Hinv
  iexact Hrest

/-- The destinations are put under the protocol, each with its reader's count and its writer's token. -/
theorem slots_made : BI.own (ES (initSlots keys 1))
    ⊢ (iprop(|={Set.univ}=> ((bigSep keys fun k => iprop(∃ κ : ℕ, slotInv ES κ k (free (F := F) k))) ∗ (bigSep keys fun k => readerAt ES k 0)
        ∗ bigSep keys fun k => writeTok ES k 1)) : sProp 𝕄) := by
  iintro H
  imod (slots_init ES keys 1 (free (F := F))) $$ H with ⟨%ι, -, HI, HR, HW⟩
  imodintro
  isplitl [HI]
  · have h : (bigSep keys fun k => slotInv ES (ι k) k (free (F := F) k)) ⊢ (bigSep keys fun k => iprop(∃ κ : ℕ, slotInv ES κ k (free (F := F) k)) : sProp 𝕄) :=
      bigSep_mono fun k _ => by
        show slotInv ES (ι k) k (free (F := F) k) ⊢ (iprop(∃ κ : ℕ, slotInv ES κ k (free (F := F) k)) : sProp 𝕄)
        iintro H; iexists (ι k); iexact H
    iapply h; iexact HI
  isplitl [HR]; · iexact HR
  have h : (bigSep (keys ×ˢ Finset.range 1) fun x => writeTok ES x.1 (x.2 + 1)) ⊢ (bigSep keys fun k => writeTok ES k 1 : sProp 𝕄) := by
    rw [Finset.range_one, Finset.product_singleton, bigSep_map]; exact BIBase.Entails.rfl
  iapply h; iexact HW

/-- What may be used by all goes with each member of a product. -/
theorem bigSep_with {I : Type} [DecidableEq I] {S : Finset I} {R : sProp 𝕄} [BI.Persistent R] {Φ : I → sProp 𝕄} :
    iprop(R ∗ bigSep S Φ) ⊢ bigSep S fun i => iprop(R ∗ Φ i) :=
  BIBase.Entails.trans (sep_mono_left (BI.bigSep_of_persistent S R)) (Entails.of_eq (bigSep_sep' _ _ _).symm)

/-- All semaphores become cells at once, the slots are made, and everything goes where it is needed. -/
theorem glob : (bigSep Finset.univ fun c => iprop(Pipeline.ownSems0 (Ix := ℕ) (Name := ℕ) (U := UU) (Lvl := ℕ) (Val := Elt F) (τ := τ) osem c
      ∗ unscopedSems0 c ∗ G A c) : sProp 𝕄) ⊢ iprop(|={Set.univ}=> bigSep Finset.univ (G' A)) := by
  refine BIBase.Entails.trans ((bigSep_mono fun c _ => core_alloc A c).trans (bigSep_fupd _ _)) ?_
  rw [bigSep_sep', bigSep_sep', bigSep_sep', bigSep_sep', ← by_cells fun g => iprop(∃ κ : ℕ, cellInv ER (sched A) κ g),
    ← by_cells fun g => (reached ER g 0 : sProp 𝕄), at_first, bigSep_sep']
  iintro H
  imod H with ⟨#HI, #HR, Hat, ⟨HF, HT⟩, HS⟩
  imod (slots_made (F := F)) $$ HS with ⟨#HK, Hrd, Hwr⟩
  imodintro
  ihave Hrd := (Entails.of_eq (by_keys (F := F) fun k => readerAt ES k 0)) $$ Hrd
  ihave Hwr := (Entails.of_eq (by_keys (F := F) fun k => writeTok ES k 1)) $$ Hwr
  icases Hrd with ⟨RF, RT⟩
  icases Hwr with ⟨WF, WT⟩
  ihave DF := (deal (F := F) false) $$ [HF RF WF]
  · isplitl [HF]; · iexact HF
    isplitl [RF] <;> iassumption
  ihave DT := (deal (F := F) true) $$ [HT RT WT]
  · isplitl [HT]; · iexact HT
    isplitl [RT] <;> iassumption
  iapply (show iprop(known A ∗ bigSep Finset.univ fun c : Dev nD => mine c) ⊢ (bigSep Finset.univ (G' A) : sProp 𝕄) from bigSep_with)
  isplitr
  · unfold known
    isplitr; · iexact HI
    isplitr; · iexact HK
    iexact HR
  unfold mine
  rw [bigSep_sep', bigSep_sep']
  isplitl [Hat]; · iexact Hat
  isplitl [DF] <;> iassumption

/-! ## The credit -/

/-- What the senders owe ring `r` is credit of the receivers' receive cells, -/
theorem credS (r : Bool) (c : Dev nD) :
    (Pipeline.launchCred (fun d => owedS r d 0) c : sProp 𝕄) ⊢ bigSep (Finset.Ico 0 62) fun t => cred (tallyAt (recvCell r c t) t NN) := by
  unfold owedS
  rw [Pipeline.launchCred_sum (Finset.Ico 0 62) (fun s d => tallyAt (recvCell r (nx r d) s) s NN) c]
  exact bigSep_mono fun t _ => Pipeline.launchCred_tallyAt (.dma (semAt (recvA r) t)) (nx r) (pr r) (nx_pr r) (pr_nx r) t NN c

/-- what the receivers owe is credit of the senders' acknowledgement cells, -/
theorem credA (r : Bool) (c : Dev nD) :
    (Pipeline.launchCred (fun d => owedA r d 0) c : sProp 𝕄) ⊢ bigSep (Finset.Ico 0 58) fun t => cred (tallyAt (ackCell r c) t 1) := by
  unfold owedA
  rw [Pipeline.launchCred_sum (Finset.Ico 0 58) (fun s d => tallyAt (ackCell r (pr r d)) s 1) c]
  exact bigSep_mono fun t _ => Pipeline.launchCred_tallyAt (.reg (ackS r)) (pr r) (nx r) (pr_nx r) (nx_pr r) t 1 c

/-- and the barrier signals owed are credit of the barrier cells. -/
theorem credB (r : Bool) (c : Dev nD) :
    (Pipeline.launchCred (fun d => tallyAt (barCell (pr r d)) 0 1) c : sProp 𝕄) ⊢ cred (tallyAt (barCell c) 0 1) :=
  Pipeline.launchCred_tallyAt (.reg barS) (pr r) (nx r) (pr_nx r) (nx_pr r) 0 1 c

/-- A ring's credit on device `c`. -/
def credR (r : Bool) (c : Dev nD) : sProp 𝕄 :=
  iprop((bigSep (Finset.Ico 0 62) fun t => cred (tallyAt (recvCell r c t) t NN)) ∗ bigSep (Finset.Ico 0 58) fun t => cred (tallyAt (ackCell r c) t 1))

/-- All the credit of device `c`: each ring's, and the two barrier signals. -/
theorem creds (c : Dev nD) : (Pipeline.launchCred O₀ c : sProp 𝕄) ⊢ iprop(credR false c ∗ credR true c ∗ cred (tallyAt (barCell c) 0 2)) := by
  have e : (Pipeline.launchCred O₀ c : sProp 𝕄) = iprop((((Pipeline.launchCred (fun d => owedS false d 0) c ∗ Pipeline.launchCred (fun d => owedA false d 0) c)
      ∗ Pipeline.launchCred (fun d => owedS true d 0) c ∗ Pipeline.launchCred (fun d => owedA true d 0) c)
      ∗ Pipeline.launchCred (fun d => tallyAt (barCell (pr true d)) 0 1) c) ∗ Pipeline.launchCred (fun d => tallyAt (barCell (pr false d)) 0 1) c) := by
    rw [← Pipeline.launchCred_add, ← Pipeline.launchCred_add, ← Pipeline.launchCred_add, ← Pipeline.launchCred_add, ← Pipeline.launchCred_add]
    rfl
  rw [e]
  unfold credR
  iintro ⟨⟨⟨⟨H1, H2⟩, H3, H4⟩, H5⟩, H6⟩
  isplitl [H1 H2]
  · isplitl [H1]; · iapply (credS false c); iexact H1
    iapply (credA false c); iexact H2
  isplitl [H3 H4]
  · isplitl [H3]; · iapply (credS true c); iexact H3
    iapply (credA true c); iexact H4
  have h2 : iprop(cred (tallyAt (barCell c) 0 1) ∗ cred (tallyAt (barCell c) 0 1)) ⊢ (cred (tallyAt (barCell c) 0 2) : sProp 𝕄) := by
    rw [show (tallyAt (barCell c) 0 2 : Tallies) = tallyAt (barCell c) 0 1 + tallyAt (barCell c) 0 1 from (tallyAt_add (barCell c) 0 1 1).symm]
    exact (cred_add _ _).2
  iapply h2
  isplitl [H5]; · iapply (credB true c); iexact H5
  iapply (credB false c); iexact H6

/-! ## Where a device starts -/

/-- What ring `r` starts from, and the token for its barrier signal, from what was dealt. -/
theorem ring_intro (r : Bool) (c : Dev nD) :
    iprop(dealt r c ∗ credR r c ∗ (atPos ER (ackCell r c) 0 ∅ 0) ∗ copyCells (fun g => iprop(atPos ER g 0 ∅ 0 ∗ reached ER g 0)) r c)
      ⊢ (iprop(dutyTok ER (barCell (pr r c)) 0 r.toNat ∗ ringIn r c) : sProp 𝕄) := by
  have e (g : ℕ → GSem nD τ sig) : (bigSep (Finset.Ico 0 4) fun t => (iprop(atPos ER (g t) 0 ∅ 0 ∗ reached ER (g t) 0) : sProp 𝕄))
      = bigSep (Finset.Ico 0 (0 + 4)) fun t => iprop(atPos ER (g t) (t / 4) ∅ 0 ∗ reached ER (g t) (t / 4)) := by
    rw [show (0 + 4 : ℕ) = 4 from rfl]
    exact bigSep_congr fun t ht => by rw [show t / 4 = 0 by have := (Finset.mem_Ico.mp ht).2; omega]
  have es : (sendT r c 0 : sProp 𝕄) = iprop((bigSep (Finset.Ico 0 62) fun t => dutyTok ER (sendCell r c t) (t / 4) 0)
      ∗ (bigSep (Finset.Ico 0 62) fun t => dutyTok ER (recvCell r (nx r c) t) (t / 4) 0)
      ∗ bigSep (Finset.Ico 0 62) fun t => writeTok ES ((nx r c, r, t) : Key) 1) := by
    unfold sendT; rw [bigSep_sep', bigSep_sep']
  unfold dealt credR copyCells ringIn recvB sendP
  rw [e (sendCell r c), e (recvCell r c), es]
  iintro ⟨⟨⟨H1, H2⟩, ⟨H3, H4⟩, H5, H6⟩, ⟨C1, C2⟩, Ha, P1, P2⟩
  isplitl [H4]; · iexact H4
  isplitl [C1 P2]; · isplitl [C1] <;> iassumption
  isplitl [H1 H2 H6]
  · isplitl [H1]; · iexact H1
    isplitl [H2] <;> iassumption
  isplitl [P1]; · iexact P1
  isplitl [H3]; · iexact H3
  isplitl [H5]; · iexact H5
  isplitl [C2] <;> iassumption

/-- What a device starts from. -/
def start (c : Dev nD) : sProp 𝕄 := iprop(env A ∗ barIn c ∗ ringIn false c ∗ ringIn true c)

/-- A device's start, from what it was dealt and its credit. -/
theorem start_of (c : Dev nD) : iprop(levAts L lv ∗ Pipeline.launchCred O₀ c ∗ G' A c) ⊢ (start A c : sProp 𝕄) := by
  unfold start G' mine known env barIn
  iintro ⟨#HL, Hc, ⟨#HI, #HK, #HR⟩, Hat, DF, DT⟩
  ihave Hc := (creds (F := F) c) $$ Hc
  icases Hc with ⟨CF, CT, CB⟩
  ihave #Hr := (show (bigSep cells fun g => reached ER g 0) ⊢ (bigSep Finset.univ fun j : Fin 19 => reached ER (kcell (c, j)) 0 : sProp 𝕄) by
    rw [by_cells]; exact bigSep_elim (Finset.mem_univ c)) $$ HR
  ihave Hp := (Entails.of_eq (bigSep_sep' Finset.univ (fun j : Fin 19 => (atPos ER (kcell (c, j)) 0 ∅ 0 : sProp 𝕄)) fun j => reached ER (kcell (c, j)) 0).symm) $$ [Hat]
  · isplitl <;> iassumption
  ihave Hp := (Entails.of_eq (dev_cells (F := F) c fun g => iprop(atPos ER g 0 ∅ 0 ∗ reached ER g 0))) $$ Hp
  icases Hp with ⟨⟨AF, -⟩, ⟨AT, -⟩, ⟨AB, -⟩, QF, QT⟩
  ihave HF := (ring_intro (F := F) false c) $$ [DF CF AF QF]
  · isplitl [DF]; · iexact DF
    isplitl [CF]; · iexact CF
    isplitl [AF] <;> iassumption
  ihave HT := (ring_intro (F := F) true c) $$ [DT CT AT QT]
  · isplitl [DT]; · iexact DT
    isplitl [CT]; · iexact CT
    isplitl [AT] <;> iassumption
  icases HF with ⟨BF, RF⟩
  icases HT with ⟨BT, RT⟩
  isplitr
  · isplitr; · iexact HI
    isplitr; · iexact HK
    isplitr; · iexact HR
    iexact HL
  isplitl [BF BT CB AB]
  · isplitl [BF]; · iexact BF
    isplitl [BT]; · iexact BT
    isplitl [CB] <;> iassumption
  isplitl [RF] <;> iassumption

end Cert.RingProof

end
-- ==== Proof.Launch.lean ====
/-
The kernel on its mesh: the run of `main`, its end state, and that it always ends.
-/
module

public import proofs.«01_k».proof.Proof.Deal
public import Idealize.ShloMosaic.Lib.Pipeline.Launch
public import Idealize.ShloMosaic.Lib.Pipeline.Kit
public import Idealize.ShloMosaic.Lib.Pipeline.CollectiveSegs

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The machine at the start: memory `m`, all counters zero. -/
def s₀ : MemSt nD τ sig (Elt F) := ⟨m, fun _ => 0, ρ⟩

/-- A device's block of `x` and of `w`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- The same for `w`. -/
def wstg (c : Dev nD) : (cc0_stg1_0 : Ref sig .tc).ty.Contents (Elt F) :=
  (win0_1.blk (0 : Fin 1)).view.read (Elt F) ((s₀ m ρ).mem ((c : Thread nD τ).loc main_arg1))
/-- A device's own product. -/
def prodOf (c : Dev nD) : Whole F := k0_pay1 (xstg m ρ c) (wstg m ρ c)

/-- The grid has one point, -/
theorem cfg0_N : cfg0.N = 1 := by decide
/-- this one, -/
def t₀ : Fin cfg0.N := ⟨0, by rw [cfg0_N]; decide⟩
/-- and no other. -/
theorem fin_N (t : Fin cfg0.N) : t = t₀ := by
  obtain ⟨t, ht⟩ := t; have := cfg0_N; exact Fin.ext (by simp only [t₀]; omega)

/-- Before the body: where a device starts, and its communication buffers. -/
def before (c : Dev nD) : sProp 𝕄 := iprop(start (prodOf m ρ) c ∗ comms c)
/-- After it: every semaphore at zero, and the buffers. -/
def after (c : Dev nD) : sProp 𝕄 := iprop((bigSep Finset.univ fun j : Fin 19 => semVal (kcell (c, j)) 0) ∗ comms c)

/-- What the pipeline is told of the kernel: the contents it stages, what the body starts from and ends with, and what it owes. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => result (prodOf m ρ)
  Φ t := match t with
    | ⟨0, _⟩ => before m ρ c
    | ⟨_ + 1, _⟩ => after c
  q _ := fullShare
  owed t := match t with
    | ⟨0, _⟩ => O₀ c
    | ⟨_ + 1, _⟩ => 0

/-- A product over the three windows, written out. -/
theorem bigSep_W (Φ : Fin cfg0.W → sProp 𝕄) : bigSep Finset.univ Φ = iprop(Φ (0 : Fin 3) ∗ Φ (1 : Fin 3) ∗ Φ (2 : Fin 3)) := bigSep_W0 Φ
/-- The window of `x` is fetched, -/
theorem fetch_0 (t : Fin cfg0.N) : (cfg0.win (0 : Fin 3)).fetch t = true := by rw [fin_N t]; rfl
/-- and so is that of `w`. -/
theorem fetch_1 (t : Fin cfg0.N) : (cfg0.win (1 : Fin 3)).fetch t = true := by rw [fin_N t]; rfl

/-! ## The body, in the pipeline's terms -/

/-- Staging buffer `b` holds `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body starts from, -/
def bodyPre (c : Dev nD) : sProp 𝕄 :=
  iprop(before m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
/-- and what it ends with. -/
def bodyPost (c : Dev nD) : sProp 𝕄 :=
  iprop(after c ∗ (dats m ρ 0 c).owesAt 0 t₀.succ
    ∗ stg c cc0_stg0_0 (xstg m ρ c) ∗ stg c cc0_stg1_0 (wstg m ρ c) ∗ stg c cc0_stg2_0 (result (prodOf m ρ)))

/-- The body does what it should, as the loop, -/
theorem sound_body (c : Dev nD) : bodyPre m ρ c ⊢ wp frame (wpE (defs₀ (F := F)) 𝒱₀ (c : Thread nD τ) none) Set.univ
    (.op .deviceId fun d => ringBody (printed d)) (fun _ => bodyPost m ρ c) := by
  rw [wp_deviceId]
  unfold bodyPre before start
  iintro ⟨⟨⟨#He, HB, RF, RT⟩, HC⟩, Ho, ⟨%d0, %g0, %h0, Hx⟩, ⟨%d1, %g1, %h1, Hw⟩, ⟨%d2, %g2, %h2, Hout⟩⟩
  have hx : g0 = xstg m ρ c := by rw [h0]; unfold Dat.before; rw [if_pos (fetch_0 t₀)]; rfl
  have hw : g1 = wstg m ρ c := by rw [h1]; unfold Dat.before; rw [if_pos (fetch_1 t₀)]; rfl
  subst hx; subst hw
  unfold Dat.owesAt Pipeline.owesWithin
  icases Ho with ⟨%W, %hW, HO⟩
  rw [show (dats m ρ 0 c).owed t₀.castSucc = O₀ c from rfl]
  iapply (wp_ringBody (prodOf m ρ) c (xstg m ρ c) (wstg m ρ c) rfl g2 (fun _ => bodyPost m ρ c)) $$ [HB RF RT HC Hx Hw Hout HO]
  · isplitr; · iexact He
    isplitl [HB]; · iexact HB
    isplitl [RF]; · iexact RF
    isplitl [RT]; · iexact RT
    isplitl [HC]; · iexact HC
    isplitl [Hx]; · iexact Hx
    isplitl [Hw]; · iexact Hw
    isplitl [Hout]; · iexact Hout
    unfold ow; iexists W; iexact HO
  unfold bodyPost after ow Dat.owesAt Pipeline.owesWithin
  rw [show (dats m ρ 0 c).owed t₀.succ = 0 from rfl, owns_whole_eq]
  iintro ⟨HS, HC, Hx, Hw, Hout, %W', HO⟩
  isplitl [HS HC]; · isplitl [HS] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexact Hout

set_option maxRecDepth 100000 in
/-- and as printed. -/
theorem body_obligation (c : Dev nD) : BodyObligation (dats (F := F) m ρ 0 c) (defs₀ (F := F)) 𝒱₀ 0 Set.univ := fun t => by
  rw [fin_N t]
  rw [bigSep_W, bigSep_W]
  simp only [Cert.RingProof.owns_whole_eq]
  show bodyPre m ρ c ⊢ wp frame (wpE (defs₀ (F := F)) 𝒱₀ c none) Set.univ
    (cc0_body xM (Memref.isWhole_whole _) wM (Memref.isWhole_whole _) oM (Memref.isWhole_whole _)
      (Memref.whole cc0_scratch0) (Memref.isWhole_whole _) (Memref.whole cc0_scratch1) (Memref.isWhole_whole _)
      cc0_scratch2 cc0_scratch3 cc0_scratch4 cc0_scratch5 cc0_scratch6 cc0_scratch7) (fun _ => bodyPost m ρ c)
  rw [body_eq]
  exact sound_body m ρ c

/-! ## The launch's side conditions -/

/-- Every window's array is held in full. -/
theorem share_eq (c : Dev nD) (w : Fin cfg0.W) : (dats m ρ 0 c).share w = fullShare := by unfold Dat.share; split <;> rfl

/-- A device's start, from what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prodOf m ρ) c)
      ⊢ (iprop(|={Set.univ}=> (start (prodOf m ρ) c ∗ emp)) : sProp 𝕄) := by
  iintro ⟨-, Hl, Hc, -, HG⟩
  imodintro
  isplitl
  · iapply (start_of (prodOf m ρ) c)
    isplitl [Hl]; · iexact Hl
    isplitl [Hc] <;> iassumption
  iempintro

/-- The buffers the kernel allocates are the two rings' landing buffers. -/
theorem comms_eq (c : Dev nD) : (Pipeline.scopedRest cfg0.spec c : sProp 𝕄) = comms c := by
  have e (b : Ref sig .tc) : (iprop(∃ X, owns (c : Thread nD τ) (Memref.whole b) fullShare X) : sProp 𝕄)
      = iprop(∃ f : Buf (Elt F) ((c : Thread nD τ).loc b), ((c : Thread nD τ).loc b) ↦{fullShare} f) := by
    have h1 : iprop(∃ X, owns (c : Thread nD τ) (Memref.whole b) fullShare X)
        ⊢ (iprop(∃ f : Buf (Elt F) ((c : Thread nD τ).loc b), ((c : Thread nD τ).loc b) ↦{fullShare} f) : sProp 𝕄) := by
      iintro ⟨%X, H⟩
      ihave H := (Entails.of_eq (owns_whole_eq c b X)) $$ H
      icases H with ⟨%f, -, H⟩
      iexists f; iexact H
    have h2 : (iprop(∃ f : Buf (Elt F) ((c : Thread nD τ).loc b), ((c : Thread nD τ).loc b) ↦{fullShare} f) : sProp 𝕄)
        ⊢ iprop(∃ X, owns (c : Thread nD τ) (Memref.whole b) fullShare X) := by
      iintro ⟨%f, H⟩
      iexists f
      rw [owns_whole_eq]
      iexists f
      isplitr; · ipureintro; rfl
      iexact H
    exact BI.equiv_iff.mp ⟨h1, h2⟩
  rw [show (Pipeline.scopedRest cfg0.spec c : sProp 𝕄) = Pipeline.scopedRest spec0 c from rfl, scopedRest0_eq]
  exact congrArg₂ _ (e cc0_scratch0).symm (e cc0_scratch1).symm

/-- What the body starts from, once its buffers are allocated. -/
theorem phi0_intro (c : Dev nD) :
    iprop(start (prodOf m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, comms_eq]
  unfold before
  iintro ⟨Hs, -, Hc⟩
  isplitl [Hs] <;> iassumption

/-- What the body ends with gives all counters back at zero, and the buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, comms_eq]
  unfold after
  rw [← sems0_eq]
  iintro ⟨⟨Hu, Ho⟩, Hc⟩
  isplitl [Hu]; · iexact Hu
  isplitl [Ho] <;> iassumption

/-- The pipeline's own waits lie below all that the device owes. -/
theorem waits (c : Dev nD) : (levAts L lv : sProp 𝕄) ⊢ Pipeline.cellsWaits cfgs (dats m ρ) 0 0 c :=
  Pipeline.cellsWaits_intro cfgs (dats m ρ) 0 0 c fun w s t =>
    mayWait c _ 0 0 _ (by omega) (by fin_cases w <;> fin_cases s <;> exact Nat.le_refl 0) (by
      rcases t with ⟨_ | _, ht⟩
      · exact above_O₀ c
      · exact above_zero 0)

/-! ## The run -/

/-- What window `w`'s array holds in the end. -/
def finalA (c : Dev nD) (w : Fin cfg0.W) : Buf (Elt F) ((cfg0.win w).arr.view.loc (c : Thread nD τ)) := (dats m ρ 0 c).arrAt w cfg0.N

/-- Every array of every device ends as computed. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every semaphore at zero, on any float values: the kernel on its 32 devices ends, with its
    arrays as computed and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prodOf m ρ)) (G' := G' (prodOf m ρ)) (u₀ := u₀)
    (hu₀ := by
      unfold u₀
      iintro Hu
      ihave H := (ownU_pair _ _) $$ Hu
      icases H with ⟨HP, HX⟩
      imod (fund_ring (prodOf m ρ)) $$ HX with HG
      imodintro
      isplitl [HP] <;> iassumption)
    (hglob := glob (prodOf m ρ))
    (hA := fun _ _ => rfl) (hpf := fun _ k => k.elim0)
    (X := start (prodOf m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` ends unchanged, -/
theorem finalA_x (c : Dev nD) : finalA m ρ c (0 : Fin 3) = (s₀ m ρ).mem (win0_0.arr.view.loc (c : Thread nD τ)) :=
  (dats (F := F) m ρ 0 c).arrAt_in (0 : Fin 3) rfl _
/-- and so does that of `w`. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Frames.lean ====
/-
The three frames: each program ends, keeps its arguments and leaves every counter at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 200000

noncomputable section

namespace Cert.RingProof

open Idealize.ShloMosaic Idealize.SL.Sem

/-- The two printed programs are one: their bodies agree label by label, -/
theorem body_same : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

/-- and so do the pipelines around them. -/
theorem defs_same : Cert.Kernel.defs (F := Bits) = Cert.KernelIdeal.defs (F := Bits) :=
  congrArg (Pipeline.defs Cert.KernelIdeal.pcfgs) body_same

/-- The kernel, over the device's own float values: it ends on every schedule, keeps its arguments and
    leaves every counter at zero. -/
theorem frame_kernel : Cert.quiescent_Kernel := fun m ρ _ => by
  rw [defs_same]
  exact (θ_run Cert.KernelIdeal.defs _ _).mono
    (fun _ h => ⟨fun c => ⟨(h.1 c 0).trans (finalA_x m ρ c), (h.1 c 1).trans (finalA_w m ρ c)⟩, h.2⟩)
    (run_main (F := Bits) m ρ)

/-- The same kernel over exact values. -/
theorem frame_kernelIdeal : Cert.quiescent_KernelIdeal := fun m ρ _ =>
  (θ_run Cert.KernelIdeal.defs _ _).mono
    (fun _ h => ⟨fun c => ⟨(h.1 c 0).trans (finalA_x m ρ c), (h.1 c 1).trans (finalA_w m ρ c)⟩, h.2⟩)
    (run_main (F := Ideal) m ρ)

/-- The reference over exact values; it has no counter at all. -/
theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.RingProof

end
-- ==== Proof.Sums.lean ====
/-
What the reduction leaves, over exact values: at each place of the output, the sum of all devices' own
products there, kept at or above zero.
-/
module

public import proofs.«01_k».proof.Proof.Launch
public import Idealize.ShloMosaic.Lib.MatmulPlain
public import Idealize.ShloMosaic.PureOps.Ideal.Laws

@[expose] public section

set_option maxRecDepth 8000

noncomputable section

namespace Cert.RingProof

open Cert.KernelIdeal Cert.KernelIdeal.Gen
open Idealize.ShloMosaic
open Idealize.ShloMosaic.TcCoe

/-- The device `i` hops before `c` on ring `r`. -/
def back (r : Bool) (c : Dev nD) (i : ℕ) : Dev nD :=
  ⟨(c.val + (match r with | false => 31 * i | true => i)) % 32, Nat.mod_lt _ (by decide)⟩

/-- No hop back is the device itself, -/
theorem back_zero (r : Bool) (c : Dev nD) : back r c 0 = c := by
  have := c.isLt; cases r <;> refine Fin.ext ?_ <;> simp only [back] <;> simp only [nD] at this <;> omega

/-- and one hop more is a hop from the device before. -/
theorem back_pr (r : Bool) (c : Dev nD) (i : ℕ) : back r (pr r c) i = back r c (i + 1) := by
  have := c.isLt
  cases r <;> refine Fin.ext ?_ <;> simp only [back, pr, nx, Bool.not_false, Bool.not_true] <;> simp only [nD] at this <;> omega

/-- Going back up to 31 hops meets every device once. -/
theorem back_bij (r : Bool) (c : Dev nD) : Function.Bijective fun i : Fin 32 => back r c i.val := by
  refine Finite.injective_iff_bijective.mp fun i j h => Fin.ext ?_
  have h' := congrArg Fin.val h
  have := c.isLt; have := i.isLt; have := j.isLt
  cases r <;> simp only [back] at h' <;> simp only [nD] at * <;> omega

/-- So a sum over the hops is one over the devices. -/
theorem sum_back (f : Dev nD → EReal) (r : Bool) (c : Dev nD) : ∑ i ∈ Finset.range 32, f (back r c i) = ∑ d, f d := by
  rw [Finset.sum_range]
  exact (back_bij r c).sum_comp f

/-- The chunk a device adds to next is the one its predecessor has just sent. -/
theorem ck_pr (r : Bool) (c : Dev nD) (p : ℕ) : ck r (pr r c) p = ck r c (p + 1) := by
  have h := ck_nx r (pr r c) p
  rw [nx_pr] at h
  exact h.symm

variable (A : Dev nD → Whole Ideal)

/-- The partial sum after `s` hops. -/
theorem val_sum (r : Bool) (j : S128x1024.Idx) : ∀ (s : ℕ) (c : Dev nD) (k : Fin 32), s ≤ 30 → ck r c s = k →
    val A r s c j = ∑ i ∈ Finset.range (s + 1), (A (back r c i) ((outR (r, k)).emb j) : EReal)
  | 0, c, k, _, h => by
      subst h
      rw [Finset.sum_range_one, back_zero]
      rfl
  | s + 1, c, k, hs, h => by
      have ih := val_sum r j s (pr r c) k (by omega) ((ck_pr r c s).trans h)
      subst h
      rw [val_acc A r s c (by omega), Finset.sum_range_succ', back_zero]
      simp only [back_pr] at ih
      exact (congrArg (fun t : EReal => (A c ((outR (r, ck r c (s + 1))).emb j) : EReal) + t) ih).trans (add_comm _ _)

/-- The cut at zero, entry by entry. -/
theorem relu_apply (v : Vec Ideal S128x1024 .f32) (j : S128x1024.Idx) : reluP v j = max (v j : EReal) 0 := by
  unfold reluP k0_pay69
  rw [shapeCast_self]
  exact congrArg (fun t : EReal => max (v j : EReal) t) Ideal.ofBits_zero_f32

/-- The completed chunk. -/
theorem val_total (r : Bool) (j : S128x1024.Idx) (c : Dev nD) (k : Fin 32) (h : ck r c 31 = k) :
    val A r 31 c j = max (∑ d, (A d ((outR (r, k)).emb j) : EReal)) 0 := by
  have ih := val_sum A r j 30 (pr r c) k le_rfl ((ck_pr r c 30).trans h)
  subst h
  rw [val_relu, relu_apply, ← sum_back (fun d => A d ((outR (r, ck r c 31)).emb j)) r c, Finset.sum_range_succ', back_zero, add_comm]
  simp only [back_pr] at ih
  exact congrArg (fun t : EReal => max ((A c ((outR (r, ck r c 31)).emb j) : EReal) + t) 0) ih

/-- The owner of chunk `k` has it at place 31. -/
theorem ck_owner (r : Bool) (k : Fin 32) : ck r (owner r k) 31 = k := by
  have := k.isLt; cases r <;> refine Fin.ext ?_ <;> simp only [owner, ck] <;> omega

/-- The output at a place: the sum over the devices of their products at that place, kept at or above zero. -/
theorem result_apply (i : S4096x2048.Idx) : result A i = max (∑ d, (A d i : EReal)) 0 := by
  obtain ⟨x, -, hi⟩ := Finset.mem_biUnion.mp (outR_cov.symm ▸ Finset.mem_univ i)
  obtain ⟨j, rfl⟩ := (outR x).exists_idx_of_mem hi
  refine (result_spec A x j).trans ?_
  exact val_total A x.1 j _ x.2 (ck_owner x.1 x.2)

end Cert.RingProof

end
-- ==== Proof.Values.lean ====
/-
The value claim: over exact values every device's result is the reference's, the product of the whole
arrays kept at or above zero.
-/
module

public import proofs.«01_k».proof.Defs
public import proofs.«01_k».proof.Proof.Sums
public import proofs.«01_k».proof.Proof.Gen.ReferenceIdeal
public import proofs.«01_k».proof.Proof.Gen.ReferenceIdeal.Run
public import Idealize.ShloMosaic.Lib.Layout
public import Idealize.ShloMosaic.Lib.StackMember

@[expose] public section

set_option maxRecDepth 8000

noncomputable section

namespace Cert.RingProof

open Cert.KernelIdeal Cert.KernelIdeal.Gen
open Idealize.ShloMosaic
open Idealize.ShloMosaic.TcCoe
open Idealize.SL.Sem
open Idealize.ShloMosaic.ValueIdx

/-! ## The windows are the whole arrays -/

section Windows
variable {F : FTy → Type} [FloatOps F]
variable (m : (ℓ : Loc nD τ sig) → Buf (Elt F) ℓ) (ρ : Dev nD → PrngReg)

/-- The staged block of `x` is the device's argument, -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- and so is that of `w`. -/
theorem wstg_eq (c : Dev nD) : wstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- What the result's array ends at: the reduced and gathered output. -/
theorem finalA_o (c : Dev nD) : finalA m ρ c (2 : Fin 3) = result (prodOf m ρ) := by
  have hz : (fun a => (win0_2.index (0 : Fin 1)) a * main_v1.ty.shape.size a) = fun _ => 0 :=
    funext fun a => by fin_cases a <;> decide
  refine (Memref.read_access_unit_zero (Elt F) main_v1 hz (fun a => by fin_cases a <;> decide) _).symm.trans ?_
  show (win0_2.blk (0 : Fin 1)).view.read (Elt F) (finalA m ρ c (2 : Fin 3)) = _
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

end Windows

/-! ## Each device's product, and their sum -/

/-- The kernel's product of two blocks, entry by entry. -/
theorem pay1_apply (x : Vec Ideal S4096x128 .f32) (w : Vec Ideal S128x2048 .f32) (a : Fin 4096) (b : Fin 2048) :
    k0_pay1 x w (ix2 a b) = ∑ k : Fin 128, (x (ix2 a k) * w (ix2 k b) : EReal) := by
  unfold k0_pay1
  rw [shapeCast_self, shapeCast_self]
  refine (Ideal.matmul_plain_apply (M := 4096) (K := 128) (N := 2048) none x w _ a b).trans ?_
  refine (congrArg (fun t : EReal => t + ∑ k : Fin 128, (x (ix2 a k) * w (ix2 k b) : EReal)) Ideal.ofBits_zero_f32).trans ?_
  exact zero_add _

variable (X : FVec Ideal ⟨2, ![4096, 4096]⟩ .f32) (W : FVec Ideal ⟨2, ![4096, 2048]⟩ .f32)

/-- Column `k` of device `c`'s part of `x` is column `k + 128 c` of the whole, and so are the rows of `w`. -/
def wide (c : Fin 32) (k : Fin 128) : Fin 4096 := (finProdFinEquiv (c, k) : Fin (32 * 128))

/-- An entry of device `c`'s block of `x`, -/
theorem blockX_apply (c : Fin 32) (h : Layout.Tiles ⟨2, ![4096, 128]⟩ ⟨2, ![4096, 4096]⟩ 1 32) (a : Fin 4096) (k : Fin 128) :
    Layout.block ⟨2, ![4096, 128]⟩ ⟨2, ![4096, 4096]⟩ 1 32 c X h (ix2 a k) = X (ix2 a (wide c k)) := by
  rw [Layout.block_apply]
  refine congrArg X (funext fun ax => Fin.ext ?_)
  match ax with
  | ⟨0, _⟩ => exact (Layout.idx_cols_val h c (ix2 a k)).1
  | ⟨1, _⟩ => exact (Layout.idx_cols_val h c (ix2 a k)).2.trans (by show c.val * 128 + k.val = k.val + 128 * c.val; omega)

/-- and of its block of `w`. -/
theorem blockW_apply (c : Fin 32) (h : Layout.Tiles ⟨2, ![128, 2048]⟩ ⟨2, ![4096, 2048]⟩ 0 32) (k : Fin 128) (b : Fin 2048) :
    Layout.block ⟨2, ![128, 2048]⟩ ⟨2, ![4096, 2048]⟩ 0 32 c W h (ix2 k b) = W (ix2 (wide c k) b) := by
  rw [Layout.block_apply]
  refine congrArg W (funext fun ax => Fin.ext ?_)
  match ax with
  | ⟨0, _⟩ => exact (Layout.idx_rows_val h c (ix2 k b)).1.trans (by show c.val * 128 + k.val = k.val + 128 * c.val; omega)
  | ⟨1, _⟩ => exact (Layout.idx_rows_val h c (ix2 k b)).2

/-- The sum over the devices of the sums over their columns is the sum over all columns. -/
theorem sum_wide (f : Fin 4096 → EReal) : ∑ c : Fin 32, ∑ k : Fin 128, f (wide c k) = ∑ q : Fin 4096, f q := by
  rw [← Fintype.sum_prod_type']
  exact Equiv.sum_comp (finProdFinEquiv (m := 32) (n := 128)) f

/-- The reference's result, entry by entry. -/
theorem ref_apply (a : Fin 4096) (b : Fin 2048) :
    (maximumf (Host.dotGeneral Cert.ReferenceIdeal.dot_S4096x4096_S4096x2048_S4096x2048_1_0_0_1_n_n none X W)
      (broadcastInDim Cert.ReferenceIdeal.S4096x2048 ![] Cert.ReferenceIdeal.Facts₀.bcast_S_S4096x2048 (constant (F := Ideal) Cert.ReferenceIdeal.S_ .f32 0x00000000#32)) : FVec Ideal ⟨2, ![4096, 2048]⟩ .f32) (ix2 a b)
      = max (∑ q : Fin 4096, (X (ix2 a q) * W (ix2 q b) : EReal)) 0 := by
  refine (congrArg (fun t : EReal => max (Host.dotGeneral (DotDims.plain 4096 4096 2048) none X W (ix2 a b) : EReal) t) Ideal.ofBits_zero_f32).trans ?_
  exact congrArg (fun t : EReal => max t 0) (StackMember.dotGeneral_plain_apply none X W a b)

/-- Over exact values every device ends with the reference's result. -/
theorem algebraic : Cert.algebraic_KernelIdeal_ReferenceIdeal := by
  intro m ρ m' ρ' _ hagree
  refine ⟨_, (θ_run Cert.KernelIdeal.defs _ _).mono
      (fun _ h c => ⟨((h.1 c (2 : Fin 3)).trans (finalA_o m ρ c)).trans ?_, (h.1 c 0).trans (finalA_x m ρ c), (h.1 c 1).trans (finalA_w m ρ c)⟩)
      (run_main (F := Ideal) m ρ),
    (θ_run Cert.ReferenceIdeal.defs _ _).mono (fun _ h => h 0) (Cert.ReferenceIdeal.Value.run (F := Ideal) m' ρ')⟩
  funext i
  obtain ⟨a, b, rfl⟩ : ∃ a b, i = ix2 a b := ⟨_, _, eq_ix2 i⟩
  refine (result_apply (prodOf m ρ) (ix2 a b)).trans (.trans ?_ (ref_apply _ _ a b).symm)
  refine congrArg (fun t : EReal => max t 0) (.trans (Finset.sum_congr rfl fun d _ => ?_) (sum_wide _))
  unfold prodOf
  rw [pay1_apply, xstg_eq, wstg_eq, (hagree d).1, (hagree d).2]
  exact Finset.sum_congr rfl fun k _ => congrArg₂ (fun s t : EReal => s * t) (blockX_apply _ d _ a k) (blockW_apply _ d _ k b)

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- The five claims: the three frames, the idealization (which rewrote nothing) and the value. -/
theorem claim : Cert.Claim :=
  ⟨Cert.Kernel.Gen.facts, Cert.KernelIdeal.Gen.facts, Cert.ReferenceIdeal.Gen.facts,
    RingProof.frame_kernel, RingProof.frame_kernelIdeal, RingProof.frame_ref, trivial, RingProof.algebraic⟩

end Cert.Proof

end
